-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attractor_inputs [hPre_attractor_inputs : Cert.Pre_attractor_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attractor_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_attractor_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attractor_inputs [hPre_attractor_inputs : Cert.Pre_attractor_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attractor_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_attractor_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_attractor_inputs [hKernelIdeal : Cert.KernelIdeal.Facts] [hPre_attractor_inputs : Cert.Pre_attractor_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attractor_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_attractor_inputs [hReferenceIdeal : Cert.ReferenceIdeal.Facts] [hPre_attractor_inputs : Cert.Pre_attractor_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attractor_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_attractor_inputs [hKernelIdeal : Cert.KernelIdeal.Facts] [hReferenceIdeal : Cert.ReferenceIdeal.Facts] [hPre_attractor_inputs : Cert.Pre_attractor_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attractor_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_attractor_inputs : Cert.Pre_attractor_inputs.Facts),
    quiescent_Kernel (hKernel := hKernel)
    ∧ quiescent_KernelIdeal (hKernelIdeal := hKernelIdeal)
    ∧ quiescent_KernelIdeal_pre_attractor_inputs (hKernelIdeal := hKernelIdeal) (hPre_attractor_inputs := hPre_attractor_inputs)
    ∧ quiescent_ReferenceIdeal (hReferenceIdeal := hReferenceIdeal)
    ∧ quiescent_ReferenceIdeal_pre_attractor_inputs (hReferenceIdeal := hReferenceIdeal) (hPre_attractor_inputs := hPre_attractor_inputs)
    ∧ preserves_Kernel_KernelIdeal
    ∧ algebraic_KernelIdeal_ReferenceIdeal_pre_attractor_inputs (hKernelIdeal := hKernelIdeal) (hReferenceIdeal := hReferenceIdeal) (hPre_attractor_inputs := hPre_attractor_inputs)
-- ==== Pre_attractor_inputs.lean ====
abbrev S8x4096x3 : Shape := ⟨3, ![8, 4096, 3]⟩
abbrev S20 : Shape := ⟨1, ![20]⟩
abbrev S_ : Shape := ⟨0, ![]⟩

class Facts : Prop where
  bcast_S_S8x4096x3 : S_.BroadcastsInDim S8x4096x3 (![] : Fin 0 → Fin S8x4096x3.rank)
  bcast_S_S20 : S_.BroadcastsInDim S20 (![] : Fin 0 → Fin S20.rank)

variable [Facts]

def fn {F : FTy → Type} [FloatOps F] (main_arg0 : FVec F S8x4096x3 .f32) (main_arg1 : FVec F S20 .f32) : IVec S8x4096x3 1 × IVec S20 1 :=
  let main_v0 : FVec F S20 .f32 := mulf main_arg1 main_arg1
  let main_v1 : FVec F S8x4096x3 .f32 := Host.absf main_arg0
  let main_cst : FVec F S_ .f32 := constant S_ .f32 0x7F800000#32
  let main_v2 : FVec F S8x4096x3 .f32 := broadcastInDim S8x4096x3 ![] bcast_S_S8x4096x3 main_cst
  let main_v3 : IVec S8x4096x3 1 := cmpf .olt main_v1 main_v2
  let main_cst_0 : FVec F S_ .f32 := constant S_ .f32 0x00000000#32
  let main_v4 : FVec F S20 .f32 := broadcastInDim S20 ![] bcast_S_S20 main_cst_0
  let main_v5 : IVec S20 1 := cmpf .ogt main_arg1 main_v4
  let main_cst_1 : FVec F S_ .f32 := constant S_ .f32 0x322BCC77#32
  let main_v6 : FVec F S20 .f32 := broadcastInDim S20 ![] bcast_S_S20 main_cst_1
  let main_v7 : IVec S20 1 := cmpf .ogt main_v0 main_v6
  let main_v8 : IVec S20 1 := andi main_v5 main_v7
  let main_cst_2 : FVec F S_ .f32 := constant S_ .f32 0x7149F2CA#32
  let main_v9 : FVec F S20 .f32 := broadcastInDim S20 ![] bcast_S_S20 main_cst_2
  let main_v10 : IVec S20 1 := cmpf .ole main_v0 main_v9
  let main_v11 : IVec S20 1 := andi main_v8 main_v10
  (main_v3, main_v11)
-- ==== Kernel.lean ====
abbrev S8x4096x3 : Shape := ⟨3, ![8, 4096, 3]⟩
abbrev S20 : Shape := ⟨1, ![20]⟩
abbrev S36 : Shape := ⟨1, ![36]⟩
abbrev S_ : Shape := ⟨0, ![]⟩
abbrev S8x4096x8 : Shape := ⟨3, ![8, 4096, 8]⟩
abbrev S8x8x4096 : Shape := ⟨3, ![8, 8, 4096]⟩
abbrev S512x512 : Shape := ⟨2, ![512, 512]⟩
abbrev S19 : Shape := ⟨1, ![19]⟩
abbrev S1 : Shape := ⟨1, ![1]⟩
abbrev S32x128 : Shape := ⟨2, ![32, 128]⟩
abbrev S20x1 : Shape := ⟨2, ![20, 1]⟩
abbrev S20x128 : Shape := ⟨2, ![20, 128]⟩
abbrev S8x1x128 : Shape := ⟨3, ![8, 1, 128]⟩
abbrev S1x512x8 : Shape := ⟨3, ![1, 512, 8]⟩
abbrev S1x8x512 : Shape := ⟨3, ![1, 8, 512]⟩
abbrev S1x1x128 : Shape := ⟨3, ![1, 1, 128]⟩
abbrev S32x512 : Shape := ⟨2, ![32, 512]⟩
abbrev S512x8 : Shape := ⟨2, ![512, 8]⟩
abbrev S8x512 : Shape := ⟨2, ![8, 512]⟩
abbrev S512 : Shape := ⟨1, ![512]⟩
abbrev S512x1 : Shape := ⟨2, ![512, 1]⟩
abbrev S1x512 : Shape := ⟨2, ![1, 512]⟩
abbrev S32x16x512 : Shape := ⟨3, ![32, 16, 512]⟩
abbrev S16x512 : Shape := ⟨2, ![16, 512]⟩
abbrev S32 : Shape := ⟨1, ![32]⟩
abbrev S32x1 : Shape := ⟨2, ![32, 1]⟩
abbrev S1x32x1 : Shape := ⟨3, ![1, 32, 1]⟩
abbrev S1x1x1 : Shape := ⟨3, ![1, 1, 1]⟩
abbrev S1x128 : Shape := ⟨2, ![1, 128]⟩
abbrev S8x1x1 : Shape := ⟨3, ![8, 1, 1]⟩
abbrev S8 : Shape := ⟨1, ![8]⟩

abbrev nBuf : Space → Nat
  | .hbm => 49
  | .vmem => 9
  | .smem => 3
  | _ => 0

abbrev bufTy : (tb : Table) → Fin (tcTables nBuf tb) → BufTy
  | .hbm, ⟨0, _⟩ => ⟨S8x4096x3, .f32⟩
  | .hbm, ⟨1, _⟩ => ⟨S20, .f32⟩
  | .hbm, ⟨2, _⟩ => ⟨S_, .i32⟩
  | .hbm, ⟨3, _⟩ => ⟨S_, .f32⟩
  | .hbm, ⟨4, _⟩ => ⟨S8x4096x8, .f32⟩
  | .hbm, ⟨5, _⟩ => ⟨S8x8x4096, .f32⟩
  | .hbm, ⟨6, _⟩ => ⟨S20, .f32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S20, .f32⟩
  | .hbm, ⟨19, _⟩ => ⟨S20, .f32⟩
  | .hbm, ⟨20, _⟩ => ⟨S20, .f32⟩
  | .hbm, ⟨21, _⟩ => ⟨S19, .f32⟩
  | .hbm, ⟨22, _⟩ => ⟨S19, .f32⟩
  | .hbm, ⟨23, _⟩ => ⟨S19, .f32⟩
  | .hbm, ⟨24, _⟩ => ⟨S_, .f32⟩
  | .hbm, ⟨25, _⟩ => ⟨S19, .f32⟩
  | .hbm, ⟨26, _⟩ => ⟨S19, .f32⟩
  | .hbm, ⟨27, _⟩ => ⟨S_, .f32⟩
  | .hbm, ⟨28, _⟩ => ⟨S19, .f32⟩
  | .hbm, ⟨29, _⟩ => ⟨S19, .f32⟩
  | .hbm, ⟨30, _⟩ => ⟨S_, .f32⟩
  | .hbm, ⟨31, _⟩ => ⟨S20, .f32⟩
  | .hbm, ⟨32, _⟩ => ⟨S19, .f32⟩
  | .hbm, ⟨33, _⟩ => ⟨S_, .i32⟩
  | .hbm, ⟨34, _⟩ => ⟨S1, .i32⟩
  | .hbm, ⟨35, _⟩ => ⟨S20, .f32⟩
  | .hbm, ⟨36, _⟩ => ⟨S_, .i32⟩
  | .hbm, ⟨37, _⟩ => ⟨S1, .i32⟩
  | .hbm, ⟨38, _⟩ => ⟨S20, .f32⟩
  | .hbm, ⟨39, _⟩ => ⟨S_, .f32⟩
  | .hbm, ⟨40, _⟩ => ⟨S32x128, .f32⟩
  | .hbm, ⟨41, _⟩ => ⟨S20x1, .f32⟩
  | .hbm, ⟨42, _⟩ => ⟨S_, .i32⟩
  | .hbm, ⟨43, _⟩ => ⟨S1, .i32⟩
  | .hbm, ⟨44, _⟩ => ⟨S20x128, .f32⟩
  | .hbm, ⟨45, _⟩ => ⟨S32x128, .f32⟩
  | .hbm, ⟨46, _⟩ => ⟨S8x1x128, .f32⟩
  | .hbm, ⟨47, _⟩ => ⟨S8x1x1, .f32⟩
  | .hbm, ⟨48, _⟩ => ⟨S8, .f32⟩
  | .local _ .vmem, ⟨0, _⟩ => ⟨S1x512x8, .f32⟩
  | .local _ .vmem, ⟨1, _⟩ => ⟨S1x512x8, .f32⟩
  | .local _ .vmem, ⟨2, _⟩ => ⟨S1x8x512, .f32⟩
  | .local _ .vmem, ⟨3, _⟩ => ⟨S1x8x512, .f32⟩
  | .local _ .vmem, ⟨4, _⟩ => ⟨S512x512, .f32⟩
  | .local _ .vmem, ⟨5, _⟩ => ⟨S32x128, .f32⟩
  | .local _ .vmem, ⟨6, _⟩ => ⟨S1x1x128, .f32⟩
  | .local _ .vmem, ⟨7, _⟩ => ⟨S1x1x128, .f32⟩
  | .local _ .vmem, ⟨8, _⟩ => ⟨S32x512, .f32⟩
  | .local _ .smem, ⟨0, _⟩ => ⟨S36, .i32⟩
  | .local _ .smem, ⟨1, _⟩ => ⟨S36, .i32⟩
  | .local _ .smem, ⟨2, _⟩ => ⟨S20, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c_1 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_c_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_c_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg1 : BitVec 32 := BitVec.ofNat 32 (i 1).val
  let c35_i32 : BitVec 32 := 35#32
  let v438 : BitVec 1 := Scalar.cmpi .eq arg1 c35_i32
  let v439 : BitVec 32 := Scalar.extui v438
  let c0_i32_169 : BitVec 32 := 0#32
  let v440 : BitVec 1 := Scalar.cmpi .ne v439 c0_i32_169
  v440

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x4096x3 : Shape := ⟨3, ![8, 4096, 3]⟩
abbrev S20 : Shape := ⟨1, ![20]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096x4096 : Shape := ⟨2, ![4096, 4096]⟩
abbrev S1x8x4096x4096 : Shape := ⟨4, ![1, 8, 4096, 4096]⟩
abbrev S20x1x1x1 : Shape := ⟨4, ![20, 1, 1, 1]⟩
abbrev S20x8x4096x4096 : Shape := ⟨4, ![20, 8, 4096, 4096]⟩
abbrev S1x1x4096x4096 : Shape := ⟨4, ![1, 1, 4096, 4096]⟩
abbrev S20x8 : Shape := ⟨2, ![20, 8]⟩
abbrev S8x20 : Shape := ⟨2, ![8, 20]⟩
abbrev S8x19 : Shape := ⟨2, ![8, 19]⟩
abbrev S19 : Shape := ⟨1, ![19]⟩
abbrev S1x19 : Shape := ⟨2, ![1, 19]⟩
abbrev S8 : Shape := ⟨1, ![8]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S20, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x1x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S1x8x4096x4096, .f32⟩
  | .hbm, ⟨27, _⟩ => ⟨S20x1x1x1, .f32⟩
  | .hbm, ⟨28, _⟩ => ⟨S20x8x4096x4096, .f32⟩
  | .hbm, ⟨29, _⟩ => ⟨S20x8x4096x4096, .f32⟩
  | .hbm, ⟨30, _⟩ => ⟨S20x8x4096x4096, .i1⟩
  | .hbm, ⟨31, _⟩ => ⟨S4096x4096, .i1⟩
  | .hbm, ⟨32, _⟩ => ⟨S1x1x4096x4096, .i1⟩
  | .hbm, ⟨33, _⟩ => ⟨S20x8x4096x4096, .i1⟩
  | .hbm, ⟨34, _⟩ => ⟨S20x8x4096x4096, .i1⟩
  | .hbm, ⟨35, _⟩ => ⟨S20x8x4096x4096, .f32⟩
  | .hbm, ⟨36, _⟩ => ⟨S_, .f32⟩
  | .hbm, ⟨37, _⟩ => ⟨S20x8, .f32⟩
  | .hbm, ⟨38, _⟩ => ⟨S_, .f32⟩
  | .hbm, ⟨39, _⟩ => ⟨S20x8, .f32⟩
  | .hbm, ⟨40, _⟩ => ⟨S20x8, .f32⟩
  | .hbm, ⟨41, _⟩ => ⟨S_, .f32⟩
  | .hbm, ⟨42, _⟩ => ⟨S20x8, .f32⟩
  | .hbm, ⟨43, _⟩ => ⟨S20x8, .f32⟩
  | .hbm, ⟨44, _⟩ => ⟨S20x8, .f32⟩
  | .hbm, ⟨45, _⟩ => ⟨S8x20, .f32⟩
  | .hbm, ⟨46, _⟩ => ⟨S_, .f32⟩
  | .hbm, ⟨47, _⟩ => ⟨S20, .f32⟩
  | .hbm, ⟨48, _⟩ => ⟨S20, .f32⟩
  | .hbm, ⟨49, _⟩ => ⟨S20, .f32⟩
  | .hbm, ⟨50, _⟩ => ⟨S8x19, .f32⟩
  | .hbm, ⟨51, _⟩ => ⟨S8x19, .f32⟩
  | .hbm, ⟨52, _⟩ => ⟨S8x19, .f32⟩
  | .hbm, ⟨53, _⟩ => ⟨S19, .f32⟩
  | .hbm, ⟨54, _⟩ => ⟨S19, .f32⟩
  | .hbm, ⟨55, _⟩ => ⟨S19, .f32⟩
  | .hbm, ⟨56, _⟩ => ⟨S1x19, .f32⟩
  | .hbm, ⟨57, _⟩ => ⟨S8x19, .f32⟩
  | .hbm, ⟨58, _⟩ => ⟨S8x19, .f32⟩
  | .hbm, ⟨59, _⟩ => ⟨S_, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Proof.Tables.lean ====
/- The two prefetched tables, and the side condition the pipeline states of them.

The tables are host constants: the row block and the column block of each of the 36 block pairs. Each entry is below 8,
so every block the index maps name lies inside its array. -/
module

public import proofs.«01_k».proof.Proof.Gen.Kernel.Frame
public import proofs.«01_k».proof.Proof.Gen.KernelIdeal.Frame

@[expose] public section

set_option maxRecDepth 16384

noncomputable section

open Idealize.ShloMosaic Idealize.ShloMosaic.TcCoe

namespace Cert.Kernel.Gen

open Idealize.ShloMosaic.StableHlo

variable {F : FTy → Type} [FloatOps F] (m : (ℓ : Loc nD τ sig) → Buf (Elt F) ℓ)

theorem lit0_lt : ∀ k : Fin 36, (lit0 k).toNat < 8 := by decide +kernel
theorem lit1_lt : ∀ k : Fin 36, (lit1 k).toNat < 8 := by decide +kernel

/-- The region finds the row-block table as the host constant. -/
theorem V_main_c (c : Dev nD) : V m c main_c = fun i => lit0 (S36.rowMajor i) := by
  unfold V V0 hostOps0 hostOps0_1 hostOps0_2
  simp only [List.flatten_cons, List.flatten_nil, List.append_nil, List.cons_append, List.nil_append]
  after_results
  rfl

/-- The region finds the column-block table as the host constant. -/
theorem V_main_c_0 (c : Dev nD) : V m c main_c_0 = fun i => lit1 (S36.rowMajor i) := by
  unfold V V0 hostOps0 hostOps0_1 hostOps0_2
  simp only [List.flatten_cons, List.flatten_nil, List.append_nil, List.cons_append, List.nil_append]
  after_results
  rfl

theorem tbl0_eq : tbl m 0 = fun i => lit0 (S36.rowMajor i) := V_main_c m 0
theorem tbl1_eq : tbl m 1 = fun i => lit1 (S36.rowMajor i) := V_main_c_0 m 0

/-- A block index below 8 keeps a block of 512 rows inside 4096. -/
theorem row_block_inside (n v : Nat) (hn : n < 8) (hv : v < 8) (a : Fin 3) :
    ((![n, v, 0] : Fin 3 → Nat) a + 1) * S1x512x8.size a ≤ S8x4096x8.size a := by
  fin_cases a
  · show (n + 1) * 1 ≤ 8; omega
  · show (v + 1) * 512 ≤ 4096; omega
  · show (0 + 1) * 8 ≤ 8; omega

/-- The same of a block of 512 columns. -/
theorem col_block_inside (n v : Nat) (hn : n < 8) (hv : v < 8) (a : Fin 3) :
    ((![n, 0, v] : Fin 3 → Nat) a + 1) * S1x8x512.size a ≤ S8x8x4096.size a := by
  fin_cases a
  · show (n + 1) * 1 ≤ 8; omega
  · show (0 + 1) * 8 ≤ 8; omega
  · show (v + 1) * 512 ≤ 4096; omega

/-- The first grid coordinate, through its 32-bit word. -/
theorem coord0_word (i : grid0.Coords) : (BitVec.ofNat 32 (i 0).val).toNat = (i 0).val := by
  have hi : (i 0).val < 8 := (i 0).isLt
  rw [BitVec.toNat_ofNat, Nat.mod_eq_of_lt (by omega)]

/-- The pipeline's side condition holds: every entry of both tables is below 8. -/
theorem ok : Ok m := by
  unfold Ok ok0
  refine ⟨fun i => ⟨fun a => ?_, Or.inl rfl⟩, fun i => ⟨fun a => ?_, Or.inl rfl⟩⟩
  · refine row_block_inside (BitVec.ofNat 32 (i 0).val).toNat _ ?_ ?_ a
    · rw [coord0_word]; exact (i 0).isLt
    · show ((tbl m 0) _ : BitVec 32).toNat < 8
      rw [tbl0_eq]; exact lit0_lt _
  · refine col_block_inside (BitVec.ofNat 32 (i 0).val).toNat _ ?_ ?_ a
    · rw [coord0_word]; exact (i 0).isLt
    · show ((tbl m 1) _ : BitVec 32).toNat < 8
      rw [tbl1_eq]; exact lit1_lt _

end Cert.Kernel.Gen

namespace Cert.KernelIdeal.Gen

open Idealize.ShloMosaic.StableHlo

variable {F : FTy → Type} [FloatOps F] (m : (ℓ : Loc nD τ sig) → Buf (Elt F) ℓ)

theorem lit0_lt : ∀ k : Fin 36, (lit0 k).toNat < 8 := by decide +kernel
theorem lit1_lt : ∀ k : Fin 36, (lit1 k).toNat < 8 := by decide +kernel

/-- The region finds the row-block table as the host constant. -/
theorem V_main_c (c : Dev nD) : V m c main_c = fun i => lit0 (S36.rowMajor i) := by
  unfold V V0 hostOps0 hostOps0_1 hostOps0_2
  simp only [List.flatten_cons, List.flatten_nil, List.append_nil, List.cons_append, List.nil_append]
  after_results
  rfl

/-- The region finds the column-block table as the host constant. -/
theorem V_main_c_0 (c : Dev nD) : V m c main_c_0 = fun i => lit1 (S36.rowMajor i) := by
  unfold V V0 hostOps0 hostOps0_1 hostOps0_2
  simp only [List.flatten_cons, List.flatten_nil, List.append_nil, List.cons_append, List.nil_append]
  after_results
  rfl

theorem tbl0_eq : tbl m 0 = fun i => lit0 (S36.rowMajor i) := V_main_c m 0
theorem tbl1_eq : tbl m 1 = fun i => lit1 (S36.rowMajor i) := V_main_c_0 m 0

/-- A block index below 8 keeps a block of 512 rows inside 4096. -/
theorem row_block_inside (n v : Nat) (hn : n < 8) (hv : v < 8) (a : Fin 3) :
    ((![n, v, 0] : Fin 3 → Nat) a + 1) * S1x512x8.size a ≤ S8x4096x8.size a := by
  fin_cases a
  · show (n + 1) * 1 ≤ 8; omega
  · show (v + 1) * 512 ≤ 4096; omega
  · show (0 + 1) * 8 ≤ 8; omega

/-- The same of a block of 512 columns. -/
theorem col_block_inside (n v : Nat) (hn : n < 8) (hv : v < 8) (a : Fin 3) :
    ((![n, 0, v] : Fin 3 → Nat) a + 1) * S1x8x512.size a ≤ S8x8x4096.size a := by
  fin_cases a
  · show (n + 1) * 1 ≤ 8; omega
  · show (0 + 1) * 8 ≤ 8; omega
  · show (v + 1) * 512 ≤ 4096; omega

/-- The first grid coordinate, through its 32-bit word. -/
theorem coord0_word (i : grid0.Coords) : (BitVec.ofNat 32 (i 0).val).toNat = (i 0).val := by
  have hi : (i 0).val < 8 := (i 0).isLt
  rw [BitVec.toNat_ofNat, Nat.mod_eq_of_lt (by omega)]

/-- The pipeline's side condition holds: every entry of both tables is below 8. -/
theorem ok : Ok m := by
  unfold Ok ok0
  refine ⟨fun i => ⟨fun a => ?_, Or.inl rfl⟩, fun i => ⟨fun a => ?_, Or.inl rfl⟩⟩
  · refine row_block_inside (BitVec.ofNat 32 (i 0).val).toNat _ ?_ ?_ a
    · rw [coord0_word]; exact (i 0).isLt
    · show ((tbl m 0) _ : BitVec 32).toNat < 8
      rw [tbl0_eq]; exact lit0_lt _
  · refine col_block_inside (BitVec.ofNat 32 (i 0).val).toNat _ ?_ ?_ a
    · rw [coord0_word]; exact (i 0).isLt
    · show ((tbl m 1) _ : BitVec 32).toNat < 8
      rw [tbl1_eq]; exact lit1_lt _

end Cert.KernelIdeal.Gen

end
-- ==== Proof.Rows.lean ====
module

public import proofs.«01_k».proof.Proof.Gen.KernelIdeal
public import Idealize.ShloMosaic.Lib.Pointwise
public import Idealize.ShloMosaic.Lib.Tactic
public import Idealize.ShloMosaic.Lib.Pipeline.Value

@[expose] public section
set_option maxRecDepth 16384
noncomputable section
open Idealize.ShloMosaic Idealize.ShloMosaic.TcCoe Idealize.ShloMosaic.Tactic
namespace Cert.KernelIdeal.Gen

/-- One accumulator row of a tile, the hits selected as the weight or zero and summed down the rows. -/
def edgeRow (D : FVec Ideal S512x512 .f32) (w r : Ideal .f32) (a : FVec Ideal S1x512 .f32) : FVec Ideal S1x512 .f32 :=
  shapeCast S1x512 (addf a (shapeCast S1x512 (multiReduction .add [0] S512
    (select (cmpf .olt D (broadcast S512x512 r)) (broadcast S512x512 w)
      (broadcast S512x512 (Scalar.ofBits (F := Ideal) .f32 0x00000000#32)))
    0x00000000#32 reduces_S512x512_S512 (.inl rfl) rfl) shapeCasts_S512_S1x512)) shapeCasts_S1x512_S1x512

/-- One accumulator row of a tile, the hits selected as one or zero, summed in two steps and then weighted. -/
def innerRow (D : FVec Ideal S512x512 .f32) (w r : Ideal .f32) (a : FVec Ideal S1x512 .f32) : FVec Ideal S1x512 .f32 :=
  shapeCast S1x512 (addf a (mulf (broadcast S1x512 w) (shapeCast S1x512 (multiReduction .add [0] S512
    (extf .f32 (truncf .bf16 (multiReduction .add [0] S16x512
      (extf .f32 (shapeCast S32x16x512
        (select (cmpf .olt (truncf .bf16 D bitsLt_bf16_f32)
            (broadcast S512x512 (Scalar.truncf (F := Ideal) .bf16 bitsLt_bf16_f32 r)))
          (broadcast S512x512 (Scalar.ofBits (F := Ideal) .bf16 0x3F80#16))
          (broadcast S512x512 (Scalar.ofBits (F := Ideal) .bf16 0x0000#16)))
        shapeCasts_S512x512_S32x16x512) bitsLt_bf16_f32)
      0x00000000#32 reduces_S32x16x512_S16x512 (.inl rfl) rfl) bitsLt_bf16_f32) bitsLt_bf16_f32)
    0x00000000#32 reduces_S16x512_S512 (.inl rfl) rfl) shapeCasts_S512_S1x512))) shapeCasts_S1x512_S1x512

theorem edgeRow_apply (D : FVec Ideal S512x512 .f32) (w r : Ideal .f32) (a : FVec Ideal S1x512 .f32) (j : Fin 512) :
    edgeRow D w r a (ix2 (0 : Fin 1) j) = a (ix2 (0 : Fin 1) j) + ∑ i : Fin 512, if D (ix2 i j) < r then w else 0 := by
  pointwise [edgeRow]

/-- A sum over the 512 rows, taken as 16 sums of every sixteenth row. -/
theorem sum_rows_split (f : Fin 512 → EReal) :
    (∑ b : Fin 16, ∑ a : Fin 32, f ⟨a.val * 16 + b.val, by omega⟩) = ∑ i : Fin 512, f i := by
  rw [Finset.sum_comm, ← Fintype.sum_prod_type' (f := fun (a : Fin 32) (b : Fin 16) => f ⟨a.val * 16 + b.val, by omega⟩)]
  refine Fintype.sum_equiv (finProdFinEquiv (m := 32) (n := 16)) _ _ fun p => ?_
  congr 1
  ext
  show p.1.val * 16 + p.2.val = p.2.val + 16 * p.1.val
  ring

/-- The extended-real sum of reals is their real sum. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor goes inside a sum of ones and zeros. -/
theorem weight_mul_sum {n : ℕ} (w : ℝ) (P : Fin n → Prop) [DecidablePred P] :
    ((w : EReal) * ∑ i, if P i then (1 : EReal) else 0) = ∑ i, if P i then (w : EReal) else 0 := by
  have h1 : (∑ i, if P i then (1 : EReal) else 0) = ((∑ i, if P i then (1 : ℝ) else 0 : ℝ) : EReal) := by
    rw [coe_sum_real]
    exact Finset.sum_congr rfl fun i _ => by split <;> simp
  have h2 : (∑ i, if P i then (w : EReal) else 0) = ((∑ i, if P i then w else 0 : ℝ) : EReal) := by
    rw [coe_sum_real]
    exact Finset.sum_congr rfl fun i _ => by split <;> simp
  rw [h1, h2, ← EReal.coe_mul, Finset.mul_sum]
  congr 1
  exact Finset.sum_congr rfl fun i _ => by split <;> simp

theorem innerRow_apply (D : FVec Ideal S512x512 .f32) (w : ℝ) (r : Ideal .f32) (a : FVec Ideal S1x512 .f32) (j : Fin 512) :
    innerRow D (w : EReal) r a (ix2 (0 : Fin 1) j)
      = a (ix2 (0 : Fin 1) j) + ∑ i : Fin 512, if D (ix2 i j) < r then (w : EReal) else 0 := by
  pointwise [innerRow]
  rw [← weight_mul_sum, ← sum_rows_split fun i => if D (ix2 i j) < r then 1 else 0]

/-- The accumulator after one tile: its first 20 rows each gain the weighted number of hits in every column. -/
def stepAcc (D : FVec Ideal S512x512 .f32) (w : EReal) (R : Vec Ideal S20 .f32) (A : Vec Ideal S32x512 .f32) :
    Vec Ideal S32x512 .f32 := fun y =>
  if h : (y 0).val < 20 then
    A y + ∑ i : Fin 512, if D (ix2 i (y 1)) < R (ix1 (⟨(y 0).val, h⟩ : Fin 20)) then w else 0
  else A y

/-- The new contents of row `k`, the edge form. -/
theorem edge_piece (k : ℕ) (hk : k < 20) (inb : ∀ a, (![k, 0] : Fin 2 → ℕ) a + (![1, 512] : Fin 2 → ℕ) a ≤ S32x512.size a)
    (D : FVec Ideal S512x512 .f32) (w : EReal) (R : Vec Ideal S20 .f32) (A : Vec Ideal S32x512 .f32)
    (r : Ideal .f32) (a p : FVec Ideal S1x512 .f32) (hp : p = edgeRow D w r a) (hr : r = R (ix1 (⟨k, hk⟩ : Fin 20)))
    (ha : a = fun x => A ((Rect.unit (s := S32x512) ![k, 0] ![1, 512] inb).emb x)) (x : S1x512.Idx) :
    p x = stepAcc D w R A ((Rect.unit (s := S32x512) ![k, 0] ![1, 512] inb).emb x) := by
  obtain ⟨j, rfl⟩ : ∃ j : Fin 512, x = ix2 (0 : Fin 1) j := ⟨x 1, by
    funext d; match d with | ⟨0, _⟩ => exact Subsingleton.elim (α := Fin 1) _ _ | ⟨1, _⟩ => rfl⟩
  have e0 : (((Rect.unit (s := S32x512) ![k, 0] ![1, 512] inb).emb (ix2 (0 : Fin 1) j)) 0).val = k := by
    show k + 1 * 0 = k; omega
  have e1 : ((Rect.unit (s := S32x512) ![k, 0] ![1, 512] inb).emb (ix2 (0 : Fin 1) j)) 1 = j := by
    refine Fin.ext ?_; show 0 + 1 * j.val = j.val; omega
  rw [hp, edgeRow_apply, stepAcc, dif_pos (show _ < 20 by rw [e0]; exact hk), ha, hr]
  simp only [e0, e1]

/-- The new contents of row `k`, the inner form. -/
theorem inner_piece (k : ℕ) (hk : k < 20) (inb : ∀ a, (![k, 0] : Fin 2 → ℕ) a + (![1, 512] : Fin 2 → ℕ) a ≤ S32x512.size a)
    (D : FVec Ideal S512x512 .f32) (w : EReal) (R : Vec Ideal S20 .f32) (A : Vec Ideal S32x512 .f32)
    (hw : ∃ u : ℝ, w = (u : EReal))
    (r : Ideal .f32) (a p : FVec Ideal S1x512 .f32) (hp : p = innerRow D w r a) (hr : r = R (ix1 (⟨k, hk⟩ : Fin 20)))
    (ha : a = fun x => A ((Rect.unit (s := S32x512) ![k, 0] ![1, 512] inb).emb x)) (x : S1x512.Idx) :
    p x = stepAcc D w R A ((Rect.unit (s := S32x512) ![k, 0] ![1, 512] inb).emb x) := by
  obtain ⟨u, rfl⟩ := hw
  refine edge_piece k hk inb D u R A r a p ?_ hr ha x
  funext y
  obtain ⟨j, rfl⟩ : ∃ j : Fin 512, y = ix2 (0 : Fin 1) j := ⟨y 1, by
    funext d; match d with | ⟨0, _⟩ => exact Subsingleton.elim (α := Fin 1) _ _ | ⟨1, _⟩ => rfl⟩
  rw [hp, edgeRow_apply, innerRow_apply]

/-- How a buffer reads after writes: the newest piece where it lies, the older ones elsewhere. -/
def IsReader (rd : List (View.Piece (Elt Ideal) S32x512 .f32) → S32x512.Idx → Elt Ideal .f32) : Prop :=
  (∀ (r : Rect S32x512) (w : r.shape.Idx → Elt Ideal .f32) L x, rd (⟨r, w⟩ :: L) (r.emb x) = w x) ∧
  ∀ (p : View.Piece (Elt Ideal) S32x512 .f32) L y, y ∉ p.1.set → rd (p :: L) y = rd L y

theorem canon_reader : IsReader (fun L => View.canon L) :=
  ⟨fun r w L x => View.canon_cons_emb r w L x, fun p L _ h => View.canon_cons_of_not_mem p L h⟩

theorem writes_reader (v : View sig .tc .vmem S32x512 .f32) (f : v.ty.Contents (Elt Ideal)) :
    IsReader (fun L => v.read (Elt Ideal) (v.writes (Elt Ideal) f L)) :=
  ⟨fun r w L x => View.read_writes_cons_emb v f r w L x, fun p L y h => View.read_writes_cons_miss v f p L y h⟩

/-- A place off row `k` is outside the rectangle of row `k`. -/
theorem not_mem_row (k : ℕ) (inb : ∀ a, (![k, 0] : Fin 2 → ℕ) a + (![1, 512] : Fin 2 → ℕ) a ≤ S32x512.size a)
    (y : S32x512.Idx) (h : (y 0).val ≠ k) : y ∉ (Rect.unit (s := S32x512) ![k, 0] ![1, 512] inb).set :=
  Rect.not_mem_set_of_axis _ y 0 k 1 rfl rfl rfl (by omega)

/-- The rows in `S` read as `G`, the others as `B`. -/
def RowsRead (rd : List (View.Piece (Elt Ideal) S32x512 .f32) → S32x512.Idx → Elt Ideal .f32)
    (G B : Vec Ideal S32x512 .f32) (S : ℕ → Prop) (L : List (View.Piece (Elt Ideal) S32x512 .f32)) : Prop :=
  ∀ y, (S (y 0).val → rd L y = G y) ∧ (¬ S (y 0).val → rd L y = B y)

/-- One more row stored with the contents of `G`. -/
theorem rowsRead_cons {rd : List (View.Piece (Elt Ideal) S32x512 .f32) → S32x512.Idx → Elt Ideal .f32} (hrd : IsReader rd)
    {G B : Vec Ideal S32x512 .f32} {S : ℕ → Prop} {k : ℕ}
    {inb : ∀ a, (![k, 0] : Fin 2 → ℕ) a + (![1, 512] : Fin 2 → ℕ) a ≤ S32x512.size a}
    {w : (Rect.unit (s := S32x512) ![k, 0] ![1, 512] inb).shape.Idx → Elt Ideal .f32}
    {L : List (View.Piece (Elt Ideal) S32x512 .f32)}
    (h : ∀ x, w x = G ((Rect.unit (s := S32x512) ![k, 0] ![1, 512] inb).emb x)) (hL : RowsRead rd G B S L) :
    RowsRead rd G B (fun n => n = k ∨ S n) (⟨Rect.unit (s := S32x512) ![k, 0] ![1, 512] inb, w⟩ :: L) := by
  intro y
  by_cases hy : (y 0).val = k
  · refine ⟨fun _ => ?_, fun hn => absurd (Or.inl hy) hn⟩
    have e : (Rect.unit (s := S32x512) ![k, 0] ![1, 512] inb).emb (ix2 (0 : Fin 1) (y 1)) = y := by
      funext d
      match d with
      | ⟨0, _⟩ => exact Fin.ext (show k + 1 * 0 = (y 0).val by omega)
      | ⟨1, _⟩ => exact Fin.ext (show 0 + 1 * (y 1).val = (y 1).val by omega)
    rw [← e, hrd.1, h]
  · rw [hrd.2 (⟨Rect.unit (s := S32x512) ![k, 0] ![1, 512] inb, w⟩ : View.Piece (Elt Ideal) S32x512 .f32) L y (not_mem_row k inb y hy)]
    exact ⟨fun hs => (hL y).1 (hs.resolve_left hy), fun hs => (hL y).2 fun h' => hs (.inr h')⟩

/-- An older list is read off row `k`. -/
theorem canon_miss {k : ℕ} {inb : ∀ a, (![k, 0] : Fin 2 → ℕ) a + (![1, 512] : Fin 2 → ℕ) a ≤ S32x512.size a}
    {w : (Rect.unit (s := S32x512) ![k, 0] ![1, 512] inb).shape.Idx → Elt Ideal .f32}
    {L : List (View.Piece (Elt Ideal) S32x512 .f32)} {y : S32x512.Idx} {z : Elt Ideal .f32} {n : ℕ} (hn : (y 0).val = n)
    (hk : n ≠ k) (h : View.canon (Val := Elt Ideal) L y = z) :
    View.canon (Val := Elt Ideal) (⟨Rect.unit (s := S32x512) ![k, 0] ![1, 512] inb, w⟩ :: L) y = z := by
  rw [← h]
  exact View.canon_cons_of_not_mem _ _ (not_mem_row k inb y fun h' => hk (hn.symm.trans h'))

/-- A covered load of row `k`. -/
theorem load_cov (v : View sig .tc .vmem S32x512 .f32) (L : List (View.Piece (Elt Ideal) S32x512 .f32)) (A : Vec Ideal S32x512 .f32)
    (k : ℕ) (inb : ∀ a, (![k, 0] : Fin 2 → ℕ) a + S1x512.size a ≤ S32x512.size a)
    (h : ∀ y : S32x512.Idx, (y 0).val = k → View.canon (Val := Elt Ideal) L y = A y) :
    v.readCov L (Rect.unit (s := S32x512) ![k, 0] S1x512.size inb)
      = fun x => A ((Rect.unit (s := S32x512) ![k, 0] S1x512.size inb).emb x) := by
  funext x
  show v.read (Elt Ideal) (v.writes (Elt Ideal) v.junk L) ((Rect.unit (s := S32x512) ![k, 0] S1x512.size inb).emb x) = _
  rw [View.read_writes_junk_eq_canon]
  refine h _ ?_
  have h0 : (x 0).val < 1 := (x 0).isLt
  show k + 1 * (x 0).val = k
  omega

/-- A whole store of the zero block reads as zero. -/
theorem canon_zero (inb : ∀ a, (![0, 0] : Fin 2 → ℕ) a + S32x512.size a ≤ S32x512.size a) (y : S32x512.Idx)
    (w : FVec Ideal S32x512 .f32)
    (hw : w = shapeCast S32x512 (broadcast S32x512 (Scalar.ofBits (F := Ideal) .f32 0x00000000#32)) shapeCasts_S32x512_S32x512) :
    View.canon (Val := Elt Ideal) (e := .f32) [⟨Rect.unit (s := S32x512) ![0, 0] S32x512.size inb, w⟩] y = (0 : Ideal .f32) := by
  rw [View.canon_unit_zero (Val := Elt Ideal) (S := S32x512) (off := ![0, 0]) (by decide), hw]
  pointwise

end Cert.KernelIdeal.Gen
end
-- ==== Proof.Body.lean ====
module

public import proofs.«01_k».proof.Proof.Rows
public import proofs.«01_k».proof.Proof.Tables
public import Idealize.ShloMosaic.Lib.Pointwise
public import Idealize.ShloMosaic.Lib.WholeRead
public import Idealize.ShloMosaic.Lib.Tactic

@[expose] public section
set_option maxRecDepth 16384
noncomputable section
open Idealize.ShloMosaic Idealize.ShloMosaic.TcCoe Idealize.ShloMosaic.Tactic
namespace Cert.KernelIdeal.Gen

/-- The row-block table's word at a grid point. -/
abbrev word0 (c : Dev nD) (i : grid0.Coords) (xt0 : TbBuf0 (F := Ideal) c tbM0_0) : Elt Ideal .i32 :=
  View.readAt (Elt Ideal) tbM0_0.view (Rect.unit (s := S36) (k0_off1 i) S1.size (k0_off1_inb i)).toLoadRect xt0
    (Shape.Idx.first (Nat.lt_of_lt_of_eq Nat.one_pos numel1_S1.symm))

/-- The column-block table's word at a grid point. -/
abbrev word1 (c : Dev nD) (i : grid0.Coords) (xt1 : TbBuf0 (F := Ideal) c tbM0_1) : Elt Ideal .i32 :=
  View.readAt (Elt Ideal) tbM0_1.view (Rect.unit (s := S36) (k0_off1 i) S1.size (k0_off1_inb i)).toLoadRect xt1
    (Shape.Idx.first (Nat.lt_of_lt_of_eq Nat.one_pos numel1_S1.symm))

theorem ofBits_two : Ideal.ofBits .f32 0x40000000#32 = ((2 : ℝ) : EReal) := by
  simp [Ideal.ofBits, Ideal.ieee, -EReal.coe_mul]; norm_num

/-- Whether a tile lies on the diagonal of tiles, as zero or one. -/
theorem diag_value (v1 v3 : Elt Ideal .i32) : (k0_pay4 (F := Ideal) v1 v3) = if v1 = v3 then (1 : EReal) else 0 := by
  rw [k0_pay4]
  simp only [Ideal.scalar_sitofp_def]
  by_cases h : v1 = v3
  · rw [if_pos h, h, Scalar.cmpi_eq_self]
    have : (Scalar.extui 1#1 : BitVec 32).toInt = 1 := by decide
    rw [this]; simp
  · rw [if_neg h, show Scalar.cmpi .eq v1 v3 = 0#1 from by
      show BitVec.ofBool (v1 == v3) = 0#1
      rw [beq_eq_false_iff_ne.mpr h]; rfl]
    have : (Scalar.extui 0#1 : BitVec 32).toInt = 0 := by decide
    rw [this]; simp

/-- The weight of a tile: one on the diagonal of tiles, two off it. -/
theorem weight_value (v1 v3 : Elt Ideal .i32) :
    (k0_pay6 (F := Ideal) v1 v3) = ((if v1 = v3 then 1 else 2 : ℝ) : EReal) := by
  show Ideal.ofBits .f32 0x40000000#32 - k0_pay4 (F := Ideal) v1 v3 = _
  rw [diag_value, ofBits_two]
  split
  · show ((2:ℝ):EReal) - ((1:ℝ) : EReal) = _
    rw [← EReal.coe_sub]; norm_num
  · simp

theorem weight_real (v1 v3 : Elt Ideal .i32) : ∃ w : ℝ, (k0_pay6 (F := Ideal) v1 v3) = (w : EReal) :=
  ⟨_, weight_value v1 v3⟩

section
variable (c : Dev nD) (i : grid0.Coords) (arg4 : Memref sig .tc .smem S20 .f32) (harg4 : arg4.IsWhole) (arg5 : Memref sig .tc .vmem S1x512x8 .f32) (harg5 : arg5.IsWhole) (arg6 : Memref sig .tc .vmem S1x8x512 .f32) (harg6 : arg6.IsWhole) (arg7 : Memref sig .tc .vmem S512x512 .f32) (harg7 : arg7.IsWhole) (arg8 : Memref sig .tc .vmem S32x128 .f32) (harg8 : arg8.IsWhole) (arg9 : Memref sig .tc .vmem S1x1x128 .f32) (harg9 : arg9.IsWhole) (arg10 : Memref sig .tc .vmem S32x512 .f32) (harg10 : arg10.IsWhole)
    (x0 : Vec Ideal S20 .f32) (x1 : Vec Ideal S1x512x8 .f32) (x2 : Vec Ideal S1x8x512 .f32) (x3 : Vec Ideal S512x512 .f32) (x4 : Vec Ideal S32x128 .f32) (xt0 : TbBuf0 (F := Ideal) c tbM0_0) (xt1 : TbBuf0 (F := Ideal) c tbM0_1) (xs0 : Vec Ideal S32x512 .f32)

theorem load_r2 (k : ℕ) (hk : k < 20) (inb : ∀ a, (![k] : Fin 1 → ℕ) a + S1.size a ≤ S20.size a) (h0 : 0 < (Rect.unit (s := S20) ![k] S1.size inb).shape.numel) :
    View.readAt (Elt Ideal) arg4.view (Rect.unit (s := S20) ![k] S1.size inb).toLoadRect (harg4.unread x0) (Shape.Idx.first h0)
      = x0 (ix1 (⟨k, hk⟩ : Fin 20)) := by
  rw [Memref.IsWhole.readAt_unread]
  congr 1
  funext d
  match d with
  | ⟨0, _⟩ => exact Fin.ext (show k + 1 * 0 = k by omega)

theorem load_row (k : ℕ) (inb : ∀ a, (![k, 0] : Fin 2 → ℕ) a + S1x512.size a ≤ S32x512.size a) :
    View.readAt (Elt Ideal) arg10.view (Rect.unit (s := S32x512) ![k, 0] S1x512.size inb).toLoadRect (harg10.unread xs0)
      = fun x => xs0 ((Rect.unit (s := S32x512) ![k, 0] S1x512.size inb).emb x) := by
  funext x
  rw [Memref.IsWhole.readAt_unread]
  rfl

/-- The rows that case B stores, each with the tile's hits added. -/
theorem rows_B (hc0 : ¬cond0_0 i) (hc1 : ¬cond0_1 i) :
    RowsRead (fun L => arg10.view.read (Elt Ideal) (arg10.view.writes (Elt Ideal) (harg10.unread xs0) L))
      (stepAcc (k0_pay5 (word0 c i xt0) (word1 c i xt1)
        (View.readAt (Elt Ideal) arg5.view (Rect.unit (s := S1x512x8) ![0, 0, 0] S1x512x8.size inb_S1x512x8_S1x512x8_0_0_0).toLoadRect (harg5.unread x1))
        (View.readAt (Elt Ideal) arg6.view (Rect.unit (s := S1x8x512) ![0, 0, 0] S1x8x512.size inb_S1x8x512_S1x8x512_0_0_0).toLoadRect (harg6.unread x2))
        (View.readAt (Elt Ideal) arg7.view (Rect.unit (s := S512x512) ![0, 0] S512x512.size inb_S512x512_S512x512_0_0).toLoadRect (harg7.unread x3)))
        (k0_pay6 (word0 c i xt0) (word1 c i xt1)) x0 xs0)
      xs0 (fun n => n = 18 ∨ n = 17 ∨ n = 16 ∨ n = 15 ∨ n = 14 ∨ n = 13 ∨ n = 12 ∨ n = 11 ∨ n = 10 ∨ n = 9 ∨ n = 8 ∨ n = 7 ∨ n = 6 ∨ n = 5 ∨ n = 4 ∨ n = 3 ∨ n = 2 ∨ n = 1 ∨ n = 19 ∨ n = 0 ∨ False)
      (kernelRun0_B c i arg4 harg4 arg5 harg5 arg6 harg6 arg7 harg7 arg8 harg8 arg9 harg9 arg10 harg10 hc0 hc1 x0 x1 x2 x3 x4 xt0 xt1 xs0).2.1 := by
  have hw := weight_real (word0 c i xt0) (word1 c i xt1)
  refine rowsRead_cons (writes_reader arg10.view (harg10.unread xs0)) (inner_piece 18 (by decide) _ _ _ x0 xs0 hw _ _ _ rfl (load_r2 arg4 harg4 x0 18 (by decide) _ _) (load_row arg10 harg10 xs0 18 _)) ?_
  refine rowsRead_cons (writes_reader arg10.view (harg10.unread xs0)) (inner_piece 17 (by decide) _ _ _ x0 xs0 hw _ _ _ rfl (load_r2 arg4 harg4 x0 17 (by decide) _ _) (load_row arg10 harg10 xs0 17 _)) ?_
  refine rowsRead_cons (writes_reader arg10.view (harg10.unread xs0)) (inner_piece 16 (by decide) _ _ _ x0 xs0 hw _ _ _ rfl (load_r2 arg4 harg4 x0 16 (by decide) _ _) (load_row arg10 harg10 xs0 16 _)) ?_
  refine rowsRead_cons (writes_reader arg10.view (harg10.unread xs0)) (inner_piece 15 (by decide) _ _ _ x0 xs0 hw _ _ _ rfl (load_r2 arg4 harg4 x0 15 (by decide) _ _) (load_row arg10 harg10 xs0 15 _)) ?_
  refine rowsRead_cons (writes_reader arg10.view (harg10.unread xs0)) (inner_piece 14 (by decide) _ _ _ x0 xs0 hw _ _ _ rfl (load_r2 arg4 harg4 x0 14 (by decide) _ _) (load_row arg10 harg10 xs0 14 _)) ?_
  refine rowsRead_cons (writes_reader arg10.view (harg10.unread xs0)) (inner_piece 13 (by decide) _ _ _ x0 xs0 hw _ _ _ rfl (load_r2 arg4 harg4 x0 13 (by decide) _ _) (load_row arg10 harg10 xs0 13 _)) ?_
  refine rowsRead_cons (writes_reader arg10.view (harg10.unread xs0)) (inner_piece 12 (by decide) _ _ _ x0 xs0 hw _ _ _ rfl (load_r2 arg4 harg4 x0 12 (by decide) _ _) (load_row arg10 harg10 xs0 12 _)) ?_
  refine rowsRead_cons (writes_reader arg10.view (harg10.unread xs0)) (inner_piece 11 (by decide) _ _ _ x0 xs0 hw _ _ _ rfl (load_r2 arg4 harg4 x0 11 (by decide) _ _) (load_row arg10 harg10 xs0 11 _)) ?_
  refine rowsRead_cons (writes_reader arg10.view (harg10.unread xs0)) (inner_piece 10 (by decide) _ _ _ x0 xs0 hw _ _ _ rfl (load_r2 arg4 harg4 x0 10 (by decide) _ _) (load_row arg10 harg10 xs0 10 _)) ?_
  refine rowsRead_cons (writes_reader arg10.view (harg10.unread xs0)) (inner_piece 9 (by decide) _ _ _ x0 xs0 hw _ _ _ rfl (load_r2 arg4 harg4 x0 9 (by decide) _ _) (load_row arg10 harg10 xs0 9 _)) ?_
  refine rowsRead_cons (writes_reader arg10.view (harg10.unread xs0)) (inner_piece 8 (by decide) _ _ _ x0 xs0 hw _ _ _ rfl (load_r2 arg4 harg4 x0 8 (by decide) _ _) (load_row arg10 harg10 xs0 8 _)) ?_
  refine rowsRead_cons (writes_reader arg10.view (harg10.unread xs0)) (inner_piece 7 (by decide) _ _ _ x0 xs0 hw _ _ _ rfl (load_r2 arg4 harg4 x0 7 (by decide) _ _) (load_row arg10 harg10 xs0 7 _)) ?_
  refine rowsRead_cons (writes_reader arg10.view (harg10.unread xs0)) (inner_piece 6 (by decide) _ _ _ x0 xs0 hw _ _ _ rfl (load_r2 arg4 harg4 x0 6 (by decide) _ _) (load_row arg10 harg10 xs0 6 _)) ?_
  refine rowsRead_cons (writes_reader arg10.view (harg10.unread xs0)) (inner_piece 5 (by decide) _ _ _ x0 xs0 hw _ _ _ rfl (load_r2 arg4 harg4 x0 5 (by decide) _ _) (load_row arg10 harg10 xs0 5 _)) ?_
  refine rowsRead_cons (writes_reader arg10.view (harg10.unread xs0)) (inner_piece 4 (by decide) _ _ _ x0 xs0 hw _ _ _ rfl (load_r2 arg4 harg4 x0 4 (by decide) _ _) (load_row arg10 harg10 xs0 4 _)) ?_
  refine rowsRead_cons (writes_reader arg10.view (harg10.unread xs0)) (inner_piece 3 (by decide) _ _ _ x0 xs0 hw _ _ _ rfl (load_r2 arg4 harg4 x0 3 (by decide) _ _) (load_row arg10 harg10 xs0 3 _)) ?_
  refine rowsRead_cons (writes_reader arg10.view (harg10.unread xs0)) (inner_piece 2 (by decide) _ _ _ x0 xs0 hw _ _ _ rfl (load_r2 arg4 harg4 x0 2 (by decide) _ _) (load_row arg10 harg10 xs0 2 _)) ?_
  refine rowsRead_cons (writes_reader arg10.view (harg10.unread xs0)) (inner_piece 1 (by decide) _ _ _ x0 xs0 hw _ _ _ rfl (load_r2 arg4 harg4 x0 1 (by decide) _ _) (load_row arg10 harg10 xs0 1 _)) ?_
  refine rowsRead_cons (writes_reader arg10.view (harg10.unread xs0)) (edge_piece 19 (by decide) _ _ _ x0 xs0 _ _ _ rfl (load_r2 arg4 harg4 x0 19 (by decide) _ _) (load_row arg10 harg10 xs0 19 _)) ?_
  refine rowsRead_cons (writes_reader arg10.view (harg10.unread xs0)) (edge_piece 0 (by decide) _ _ _ x0 xs0 _ _ _ rfl (load_r2 arg4 harg4 x0 0 (by decide) _ _) (load_row arg10 harg10 xs0 0 _)) ?_
  exact fun y => ⟨fun h => h.elim, fun _ => congrFun (harg10.read_unread xs0) y⟩

/-- The rows that case C stores, each with the tile's hits added. -/
theorem rows_C (hc0 : ¬cond0_0 i) (hc1 : cond0_1 i) :
    RowsRead (fun L => arg10.view.read (Elt Ideal) (arg10.view.writes (Elt Ideal) (harg10.unread xs0) L))
      (stepAcc (k0_pay5 (word0 c i xt0) (word1 c i xt1)
        (View.readAt (Elt Ideal) arg5.view (Rect.unit (s := S1x512x8) ![0, 0, 0] S1x512x8.size inb_S1x512x8_S1x512x8_0_0_0).toLoadRect (harg5.unread x1))
        (View.readAt (Elt Ideal) arg6.view (Rect.unit (s := S1x8x512) ![0, 0, 0] S1x8x512.size inb_S1x8x512_S1x8x512_0_0_0).toLoadRect (harg6.unread x2))
        (View.readAt (Elt Ideal) arg7.view (Rect.unit (s := S512x512) ![0, 0] S512x512.size inb_S512x512_S512x512_0_0).toLoadRect (harg7.unread x3)))
        (k0_pay6 (word0 c i xt0) (word1 c i xt1)) x0 xs0)
      xs0 (fun n => n = 18 ∨ n = 17 ∨ n = 16 ∨ n = 15 ∨ n = 14 ∨ n = 13 ∨ n = 12 ∨ n = 11 ∨ n = 10 ∨ n = 9 ∨ n = 8 ∨ n = 7 ∨ n = 6 ∨ n = 5 ∨ n = 4 ∨ n = 3 ∨ n = 2 ∨ n = 1 ∨ n = 19 ∨ n = 0 ∨ False)
      (kernelRun0_C c i arg4 harg4 arg5 harg5 arg6 harg6 arg7 harg7 arg8 harg8 arg9 harg9 arg10 harg10 hc0 hc1 x0 x1 x2 x3 x4 xt0 xt1 xs0).2.1 := by
  have hw := weight_real (word0 c i xt0) (word1 c i xt1)
  refine rowsRead_cons (writes_reader arg10.view (harg10.unread xs0)) (inner_piece 18 (by decide) _ _ _ x0 xs0 hw _ _ _ rfl (load_r2 arg4 harg4 x0 18 (by decide) _ _) (load_row arg10 harg10 xs0 18 _)) ?_
  refine rowsRead_cons (writes_reader arg10.view (harg10.unread xs0)) (inner_piece 17 (by decide) _ _ _ x0 xs0 hw _ _ _ rfl (load_r2 arg4 harg4 x0 17 (by decide) _ _) (load_row arg10 harg10 xs0 17 _)) ?_
  refine rowsRead_cons (writes_reader arg10.view (harg10.unread xs0)) (inner_piece 16 (by decide) _ _ _ x0 xs0 hw _ _ _ rfl (load_r2 arg4 harg4 x0 16 (by decide) _ _) (load_row arg10 harg10 xs0 16 _)) ?_
  refine rowsRead_cons (writes_reader arg10.view (harg10.unread xs0)) (inner_piece 15 (by decide) _ _ _ x0 xs0 hw _ _ _ rfl (load_r2 arg4 harg4 x0 15 (by decide) _ _) (load_row arg10 harg10 xs0 15 _)) ?_
  refine rowsRead_cons (writes_reader arg10.view (harg10.unread xs0)) (inner_piece 14 (by decide) _ _ _ x0 xs0 hw _ _ _ rfl (load_r2 arg4 harg4 x0 14 (by decide) _ _) (load_row arg10 harg10 xs0 14 _)) ?_
  refine rowsRead_cons (writes_reader arg10.view (harg10.unread xs0)) (inner_piece 13 (by decide) _ _ _ x0 xs0 hw _ _ _ rfl (load_r2 arg4 harg4 x0 13 (by decide) _ _) (load_row arg10 harg10 xs0 13 _)) ?_
  refine rowsRead_cons (writes_reader arg10.view (harg10.unread xs0)) (inner_piece 12 (by decide) _ _ _ x0 xs0 hw _ _ _ rfl (load_r2 arg4 harg4 x0 12 (by decide) _ _) (load_row arg10 harg10 xs0 12 _)) ?_
  refine rowsRead_cons (writes_reader arg10.view (harg10.unread xs0)) (inner_piece 11 (by decide) _ _ _ x0 xs0 hw _ _ _ rfl (load_r2 arg4 harg4 x0 11 (by decide) _ _) (load_row arg10 harg10 xs0 11 _)) ?_
  refine rowsRead_cons (writes_reader arg10.view (harg10.unread xs0)) (inner_piece 10 (by decide) _ _ _ x0 xs0 hw _ _ _ rfl (load_r2 arg4 harg4 x0 10 (by decide) _ _) (load_row arg10 harg10 xs0 10 _)) ?_
  refine rowsRead_cons (writes_reader arg10.view (harg10.unread xs0)) (inner_piece 9 (by decide) _ _ _ x0 xs0 hw _ _ _ rfl (load_r2 arg4 harg4 x0 9 (by decide) _ _) (load_row arg10 harg10 xs0 9 _)) ?_
  refine rowsRead_cons (writes_reader arg10.view (harg10.unread xs0)) (inner_piece 8 (by decide) _ _ _ x0 xs0 hw _ _ _ rfl (load_r2 arg4 harg4 x0 8 (by decide) _ _) (load_row arg10 harg10 xs0 8 _)) ?_
  refine rowsRead_cons (writes_reader arg10.view (harg10.unread xs0)) (inner_piece 7 (by decide) _ _ _ x0 xs0 hw _ _ _ rfl (load_r2 arg4 harg4 x0 7 (by decide) _ _) (load_row arg10 harg10 xs0 7 _)) ?_
  refine rowsRead_cons (writes_reader arg10.view (harg10.unread xs0)) (inner_piece 6 (by decide) _ _ _ x0 xs0 hw _ _ _ rfl (load_r2 arg4 harg4 x0 6 (by decide) _ _) (load_row arg10 harg10 xs0 6 _)) ?_
  refine rowsRead_cons (writes_reader arg10.view (harg10.unread xs0)) (inner_piece 5 (by decide) _ _ _ x0 xs0 hw _ _ _ rfl (load_r2 arg4 harg4 x0 5 (by decide) _ _) (load_row arg10 harg10 xs0 5 _)) ?_
  refine rowsRead_cons (writes_reader arg10.view (harg10.unread xs0)) (inner_piece 4 (by decide) _ _ _ x0 xs0 hw _ _ _ rfl (load_r2 arg4 harg4 x0 4 (by decide) _ _) (load_row arg10 harg10 xs0 4 _)) ?_
  refine rowsRead_cons (writes_reader arg10.view (harg10.unread xs0)) (inner_piece 3 (by decide) _ _ _ x0 xs0 hw _ _ _ rfl (load_r2 arg4 harg4 x0 3 (by decide) _ _) (load_row arg10 harg10 xs0 3 _)) ?_
  refine rowsRead_cons (writes_reader arg10.view (harg10.unread xs0)) (inner_piece 2 (by decide) _ _ _ x0 xs0 hw _ _ _ rfl (load_r2 arg4 harg4 x0 2 (by decide) _ _) (load_row arg10 harg10 xs0 2 _)) ?_
  refine rowsRead_cons (writes_reader arg10.view (harg10.unread xs0)) (inner_piece 1 (by decide) _ _ _ x0 xs0 hw _ _ _ rfl (load_r2 arg4 harg4 x0 1 (by decide) _ _) (load_row arg10 harg10 xs0 1 _)) ?_
  refine rowsRead_cons (writes_reader arg10.view (harg10.unread xs0)) (edge_piece 19 (by decide) _ _ _ x0 xs0 _ _ _ rfl (load_r2 arg4 harg4 x0 19 (by decide) _ _) (load_row arg10 harg10 xs0 19 _)) ?_
  refine rowsRead_cons (writes_reader arg10.view (harg10.unread xs0)) (edge_piece 0 (by decide) _ _ _ x0 xs0 _ _ _ rfl (load_r2 arg4 harg4 x0 0 (by decide) _ _) (load_row arg10 harg10 xs0 0 _)) ?_
  exact fun y => ⟨fun h => h.elim, fun _ => congrFun (harg10.read_unread xs0) y⟩

/-- The rows that case A stores, each with the tile's hits added. -/
theorem rows_A (hc0 : cond0_0 i) (hc1 : ¬cond0_1 i) :
    RowsRead (fun L => View.canon (Val := Elt Ideal) L)
      (stepAcc (k0_pay5 (word0 c i xt0) (word1 c i xt1)
        (View.readAt (Elt Ideal) arg5.view (Rect.unit (s := S1x512x8) ![0, 0, 0] S1x512x8.size inb_S1x512x8_S1x512x8_0_0_0).toLoadRect (harg5.unread x1))
        (View.readAt (Elt Ideal) arg6.view (Rect.unit (s := S1x8x512) ![0, 0, 0] S1x8x512.size inb_S1x8x512_S1x8x512_0_0_0).toLoadRect (harg6.unread x2))
        (View.readAt (Elt Ideal) arg7.view (Rect.unit (s := S512x512) ![0, 0] S512x512.size inb_S512x512_S512x512_0_0).toLoadRect (harg7.unread x3)))
        (k0_pay6 (word0 c i xt0) (word1 c i xt1)) x0 (fun _ => (0 : Ideal .f32)))
      (fun _ => (0 : Ideal .f32)) (fun n => n = 18 ∨ n = 17 ∨ n = 16 ∨ n = 15 ∨ n = 14 ∨ n = 13 ∨ n = 12 ∨ n = 11 ∨ n = 10 ∨ n = 9 ∨ n = 8 ∨ n = 7 ∨ n = 6 ∨ n = 5 ∨ n = 4 ∨ n = 3 ∨ n = 2 ∨ n = 1 ∨ n = 19 ∨ n = 0 ∨ False)
      (kernelRun0_A c i arg4 harg4 arg5 harg5 arg6 harg6 arg7 harg7 arg8 harg8 arg9 harg9 arg10 harg10 hc0 hc1 x0 x1 x2 x3 x4 xt0 xt1).2.1 := by
  have hw := weight_real (word0 c i xt0) (word1 c i xt1)
  refine rowsRead_cons (canon_reader) (inner_piece 18 (by decide) _ _ _ x0 (fun _ => (0 : Ideal .f32)) hw _ _ _ rfl (load_r2 arg4 harg4 x0 18 (by decide) _ _) (load_cov arg10.view _ (fun _ => (0 : Ideal .f32)) 18 _ fun y hy => ?_)) ?_
  · iterate 19 refine canon_miss hy (by decide) ?_
    exact canon_zero _ y _ rfl
  refine rowsRead_cons (canon_reader) (inner_piece 17 (by decide) _ _ _ x0 (fun _ => (0 : Ideal .f32)) hw _ _ _ rfl (load_r2 arg4 harg4 x0 17 (by decide) _ _) (load_cov arg10.view _ (fun _ => (0 : Ideal .f32)) 17 _ fun y hy => ?_)) ?_
  · iterate 18 refine canon_miss hy (by decide) ?_
    exact canon_zero _ y _ rfl
  refine rowsRead_cons (canon_reader) (inner_piece 16 (by decide) _ _ _ x0 (fun _ => (0 : Ideal .f32)) hw _ _ _ rfl (load_r2 arg4 harg4 x0 16 (by decide) _ _) (load_cov arg10.view _ (fun _ => (0 : Ideal .f32)) 16 _ fun y hy => ?_)) ?_
  · iterate 17 refine canon_miss hy (by decide) ?_
    exact canon_zero _ y _ rfl
  refine rowsRead_cons (canon_reader) (inner_piece 15 (by decide) _ _ _ x0 (fun _ => (0 : Ideal .f32)) hw _ _ _ rfl (load_r2 arg4 harg4 x0 15 (by decide) _ _) (load_cov arg10.view _ (fun _ => (0 : Ideal .f32)) 15 _ fun y hy => ?_)) ?_
  · iterate 16 refine canon_miss hy (by decide) ?_
    exact canon_zero _ y _ rfl
  refine rowsRead_cons (canon_reader) (inner_piece 14 (by decide) _ _ _ x0 (fun _ => (0 : Ideal .f32)) hw _ _ _ rfl (load_r2 arg4 harg4 x0 14 (by decide) _ _) (load_cov arg10.view _ (fun _ => (0 : Ideal .f32)) 14 _ fun y hy => ?_)) ?_
  · iterate 15 refine canon_miss hy (by decide) ?_
    exact canon_zero _ y _ rfl
  refine rowsRead_cons (canon_reader) (inner_piece 13 (by decide) _ _ _ x0 (fun _ => (0 : Ideal .f32)) hw _ _ _ rfl (load_r2 arg4 harg4 x0 13 (by decide) _ _) (load_cov arg10.view _ (fun _ => (0 : Ideal .f32)) 13 _ fun y hy => ?_)) ?_
  · iterate 14 refine canon_miss hy (by decide) ?_
    exact canon_zero _ y _ rfl
  refine rowsRead_cons (canon_reader) (inner_piece 12 (by decide) _ _ _ x0 (fun _ => (0 : Ideal .f32)) hw _ _ _ rfl (load_r2 arg4 harg4 x0 12 (by decide) _ _) (load_cov arg10.view _ (fun _ => (0 : Ideal .f32)) 12 _ fun y hy => ?_)) ?_
  · iterate 13 refine canon_miss hy (by decide) ?_
    exact canon_zero _ y _ rfl
  refine rowsRead_cons (canon_reader) (inner_piece 11 (by decide) _ _ _ x0 (fun _ => (0 : Ideal .f32)) hw _ _ _ rfl (load_r2 arg4 harg4 x0 11 (by decide) _ _) (load_cov arg10.view _ (fun _ => (0 : Ideal .f32)) 11 _ fun y hy => ?_)) ?_
  · iterate 12 refine canon_miss hy (by decide) ?_
    exact canon_zero _ y _ rfl
  refine rowsRead_cons (canon_reader) (inner_piece 10 (by decide) _ _ _ x0 (fun _ => (0 : Ideal .f32)) hw _ _ _ rfl (load_r2 arg4 harg4 x0 10 (by decide) _ _) (load_cov arg10.view _ (fun _ => (0 : Ideal .f32)) 10 _ fun y hy => ?_)) ?_
  · iterate 11 refine canon_miss hy (by decide) ?_
    exact canon_zero _ y _ rfl
  refine rowsRead_cons (canon_reader) (inner_piece 9 (by decide) _ _ _ x0 (fun _ => (0 : Ideal .f32)) hw _ _ _ rfl (load_r2 arg4 harg4 x0 9 (by decide) _ _) (load_cov arg10.view _ (fun _ => (0 : Ideal .f32)) 9 _ fun y hy => ?_)) ?_
  · iterate 10 refine canon_miss hy (by decide) ?_
    exact canon_zero _ y _ rfl
  refine rowsRead_cons (canon_reader) (inner_piece 8 (by decide) _ _ _ x0 (fun _ => (0 : Ideal .f32)) hw _ _ _ rfl (load_r2 arg4 harg4 x0 8 (by decide) _ _) (load_cov arg10.view _ (fun _ => (0 : Ideal .f32)) 8 _ fun y hy => ?_)) ?_
  · iterate 9 refine canon_miss hy (by decide) ?_
    exact canon_zero _ y _ rfl
  refine rowsRead_cons (canon_reader) (inner_piece 7 (by decide) _ _ _ x0 (fun _ => (0 : Ideal .f32)) hw _ _ _ rfl (load_r2 arg4 harg4 x0 7 (by decide) _ _) (load_cov arg10.view _ (fun _ => (0 : Ideal .f32)) 7 _ fun y hy => ?_)) ?_
  · iterate 8 refine canon_miss hy (by decide) ?_
    exact canon_zero _ y _ rfl
  refine rowsRead_cons (canon_reader) (inner_piece 6 (by decide) _ _ _ x0 (fun _ => (0 : Ideal .f32)) hw _ _ _ rfl (load_r2 arg4 harg4 x0 6 (by decide) _ _) (load_cov arg10.view _ (fun _ => (0 : Ideal .f32)) 6 _ fun y hy => ?_)) ?_
  · iterate 7 refine canon_miss hy (by decide) ?_
    exact canon_zero _ y _ rfl
  refine rowsRead_cons (canon_reader) (inner_piece 5 (by decide) _ _ _ x0 (fun _ => (0 : Ideal .f32)) hw _ _ _ rfl (load_r2 arg4 harg4 x0 5 (by decide) _ _) (load_cov arg10.view _ (fun _ => (0 : Ideal .f32)) 5 _ fun y hy => ?_)) ?_
  · iterate 6 refine canon_miss hy (by decide) ?_
    exact canon_zero _ y _ rfl
  refine rowsRead_cons (canon_reader) (inner_piece 4 (by decide) _ _ _ x0 (fun _ => (0 : Ideal .f32)) hw _ _ _ rfl (load_r2 arg4 harg4 x0 4 (by decide) _ _) (load_cov arg10.view _ (fun _ => (0 : Ideal .f32)) 4 _ fun y hy => ?_)) ?_
  · iterate 5 refine canon_miss hy (by decide) ?_
    exact canon_zero _ y _ rfl
  refine rowsRead_cons (canon_reader) (inner_piece 3 (by decide) _ _ _ x0 (fun _ => (0 : Ideal .f32)) hw _ _ _ rfl (load_r2 arg4 harg4 x0 3 (by decide) _ _) (load_cov arg10.view _ (fun _ => (0 : Ideal .f32)) 3 _ fun y hy => ?_)) ?_
  · iterate 4 refine canon_miss hy (by decide) ?_
    exact canon_zero _ y _ rfl
  refine rowsRead_cons (canon_reader) (inner_piece 2 (by decide) _ _ _ x0 (fun _ => (0 : Ideal .f32)) hw _ _ _ rfl (load_r2 arg4 harg4 x0 2 (by decide) _ _) (load_cov arg10.view _ (fun _ => (0 : Ideal .f32)) 2 _ fun y hy => ?_)) ?_
  · iterate 3 refine canon_miss hy (by decide) ?_
    exact canon_zero _ y _ rfl
  refine rowsRead_cons (canon_reader) (inner_piece 1 (by decide) _ _ _ x0 (fun _ => (0 : Ideal .f32)) hw _ _ _ rfl (load_r2 arg4 harg4 x0 1 (by decide) _ _) (load_cov arg10.view _ (fun _ => (0 : Ideal .f32)) 1 _ fun y hy => ?_)) ?_
  · iterate 2 refine canon_miss hy (by decide) ?_
    exact canon_zero _ y _ rfl
  refine rowsRead_cons (canon_reader) (edge_piece 19 (by decide) _ _ _ x0 (fun _ => (0 : Ideal .f32)) _ _ _ rfl (load_r2 arg4 harg4 x0 19 (by decide) _ _) (load_cov arg10.view _ (fun _ => (0 : Ideal .f32)) 19 _ fun y hy => ?_)) ?_
  · iterate 1 refine canon_miss hy (by decide) ?_
    exact canon_zero _ y _ rfl
  refine rowsRead_cons (canon_reader) (edge_piece 0 (by decide) _ _ _ x0 (fun _ => (0 : Ideal .f32)) _ _ _ rfl (load_r2 arg4 harg4 x0 0 (by decide) _ _) (load_cov arg10.view _ (fun _ => (0 : Ideal .f32)) 0 _ fun y hy => ?_)) ?_
  · exact canon_zero _ y _ rfl
  exact fun y => ⟨fun h => h.elim, fun _ => canon_zero _ y _ rfl⟩

/-- All rows read, the stored ones as stepped and the others as they were. -/
theorem rowsRead_eq {rd : List (View.Piece (Elt Ideal) S32x512 .f32) → S32x512.Idx → Elt Ideal .f32}
    {D : FVec Ideal S512x512 .f32} {w : EReal} {R : Vec Ideal S20 .f32} {A : Vec Ideal S32x512 .f32}
    {L : List (View.Piece (Elt Ideal) S32x512 .f32)}
    (h : RowsRead rd (stepAcc D w R A) A (fun n => n = 18 ∨ n = 17 ∨ n = 16 ∨ n = 15 ∨ n = 14 ∨ n = 13 ∨ n = 12 ∨ n = 11 ∨ n = 10 ∨ n = 9 ∨ n = 8 ∨ n = 7 ∨ n = 6 ∨ n = 5 ∨ n = 4 ∨ n = 3 ∨ n = 2 ∨ n = 1 ∨ n = 19 ∨ n = 0 ∨ False) L) : rd L = stepAcc D w R A := by
  funext y
  by_cases hy : (y 0).val < 20
  · exact (h y).1 (by show _ ∨ _; omega)
  · rw [(h y).2 (by
      dsimp only
      rintro hS
      iterate 20 (rcases hS with hS | hS; · omega)
      exact hS), stepAcc, dif_neg hy]

theorem load_whole1 (inb : ∀ a, (![0, 0, 0] : Fin 3 → ℕ) a + S1x512x8.size a ≤ S1x512x8.size a) :
    View.readAt (Elt Ideal) arg5.view (Rect.unit (s := S1x512x8) ![0, 0, 0] S1x512x8.size inb).toLoadRect (harg5.unread x1) = x1 := by
  rw [View.readAt_eq_ld, harg5.read_unread, View.ld_unit_zero (by decide)]
theorem load_whole2 (inb : ∀ a, (![0, 0, 0] : Fin 3 → ℕ) a + S1x8x512.size a ≤ S1x8x512.size a) :
    View.readAt (Elt Ideal) arg6.view (Rect.unit (s := S1x8x512) ![0, 0, 0] S1x8x512.size inb).toLoadRect (harg6.unread x2) = x2 := by
  rw [View.readAt_eq_ld, harg6.read_unread, View.ld_unit_zero (by decide)]
theorem load_whole3 (inb : ∀ a, (![0, 0] : Fin 2 → ℕ) a + S512x512.size a ≤ S512x512.size a) :
    View.readAt (Elt Ideal) arg7.view (Rect.unit (s := S512x512) ![0, 0] S512x512.size inb).toLoadRect (harg7.unread x3) = x3 := by
  rw [View.readAt_eq_ld, harg7.read_unread, View.ld_unit_zero (by decide)]

/-- What case A leaves in the accumulator. -/
theorem sout_A (hc0 : cond0_0 i) (hc1 : ¬cond0_1 i) :
    sout0_A_0 c i arg4 harg4 arg5 harg5 arg6 harg6 arg7 harg7 arg8 harg8 arg9 harg9 arg10 harg10 hc0 hc1 x0 x1 x2 x3 x4 xt0 xt1 = stepAcc (k0_pay5 (word0 c i xt0) (word1 c i xt1) x1 x2 x3) (k0_pay6 (word0 c i xt0) (word1 c i xt1)) x0 (fun _ => (0 : Ideal .f32)) := by
  have h := rowsRead_eq (rows_A c i arg4 harg4 arg5 harg5 arg6 harg6 arg7 harg7 arg8 harg8 arg9 harg9 arg10 harg10 x0 x1 x2 x3 x4 xt0 xt1 hc0 hc1)
  rw [load_whole1, load_whole2, load_whole3] at h
  exact (View.read_writes_junk_eq_canon _ _).trans h

/-- What case B leaves in the accumulator. -/
theorem sout_B (hc0 : ¬cond0_0 i) (hc1 : ¬cond0_1 i) :
    sout0_B_0 c i arg4 harg4 arg5 harg5 arg6 harg6 arg7 harg7 arg8 harg8 arg9 harg9 arg10 harg10 hc0 hc1 x0 x1 x2 x3 x4 xt0 xt1 xs0 = stepAcc (k0_pay5 (word0 c i xt0) (word1 c i xt1) x1 x2 x3) (k0_pay6 (word0 c i xt0) (word1 c i xt1)) x0 xs0 := by
  have h := rowsRead_eq (rows_B c i arg4 harg4 arg5 harg5 arg6 harg6 arg7 harg7 arg8 harg8 arg9 harg9 arg10 harg10 x0 x1 x2 x3 x4 xt0 xt1 xs0 hc0 hc1)
  rw [load_whole1, load_whole2, load_whole3] at h
  exact h

/-- What case C leaves in the accumulator. -/
theorem sout_C (hc0 : ¬cond0_0 i) (hc1 : cond0_1 i) :
    sout0_C_0 c i arg4 harg4 arg5 harg5 arg6 harg6 arg7 harg7 arg8 harg8 arg9 harg9 arg10 harg10 hc0 hc1 x0 x1 x2 x3 x4 xt0 xt1 xs0 = stepAcc (k0_pay5 (word0 c i xt0) (word1 c i xt1) x1 x2 x3) (k0_pay6 (word0 c i xt0) (word1 c i xt1)) x0 xs0 := by
  have h := rowsRead_eq (rows_C c i arg4 harg4 arg5 harg5 arg6 harg6 arg7 harg7 arg8 harg8 arg9 harg9 arg10 harg10 x0 x1 x2 x3 x4 xt0 xt1 xs0 hc0 hc1)
  rw [load_whole1, load_whole2, load_whole3] at h
  exact h

/-- What case C writes back, from the accumulator it leaves. -/
theorem out_C (hc0 : ¬cond0_0 i) (hc1 : cond0_1 i) :
    out0_C_5 c i arg4 harg4 arg5 harg5 arg6 harg6 arg7 harg7 arg8 harg8 arg9 harg9 arg10 harg10 hc0 hc1 x0 x1 x2 x3 x4 xt0 xt1 xs0
      = k0_pay2 (stepAcc (k0_pay5 (word0 c i xt0) (word1 c i xt1) x1 x2 x3) (k0_pay6 (word0 c i xt0) (word1 c i xt1)) x0 xs0) (fun x => x4 ((Rect.unit (s := S32x128) ![0, 0] ![32, 1] inb_S32x128_S32x1_0_0).emb x)) := by
  have h := rowsRead_eq (rows_C c i arg4 harg4 arg5 harg5 arg6 harg6 arg7 harg7 arg8 harg8 arg9 harg9 arg10 harg10 x0 x1 x2 x3 x4 xt0 xt1 xs0 hc0 hc1)
  rw [load_whole1, load_whole2, load_whole3] at h
  refine (View.read_writes_junk_eq_canon _ _).trans ?_
  refine (View.canon_unit_zero (Val := Elt Ideal) (S := S1x1x128) (off := ![0, 0, 0]) (by decide) _ _).trans ?_
  refine congrArg₂ k0_pay2 ?_ ?_
  · rw [← h]
    refine (show _ = View.ld (arg10.view.read (Elt Ideal) _) (Rect.unit (s := S32x512) ![0, 0] S32x512.size _) from rfl).trans ?_
    exact View.ld_unit_zero (by decide) _ _
  · funext x
    exact Memref.IsWhole.readAt_unread _ _ _ _

end

end Cert.KernelIdeal.Gen
end
-- ==== Proof.Blocks.lean ====
module

public import proofs.«01_k».proof.Proof.Body
public import Idealize.ShloMosaic.Lib.Pipeline.ValueKit

@[expose] public section
set_option maxRecDepth 16384
noncomputable section
open Idealize.ShloMosaic Idealize.ShloMosaic.TcCoe Idealize.ShloMosaic.Tactic
namespace Cert.KernelIdeal.Gen
variable (m : (ℓ : Loc nD τ sig) → Buf (Elt Ideal) ℓ)

/-- The first coordinate of a grid point. -/
theorem coords0 : ∀ t : Fin grid0.N, ((grid0.coords t) 0).val = t.val / 36 := by decide +kernel
theorem coords1 : ∀ t : Fin grid0.N, ((grid0.coords t) 1).val = t.val % 36 := by decide +kernel

/-- The entry of a table that a one-element rectangle at the point's second coordinate names. -/
theorem table_at (i : grid0.Coords) (x : (Rect.unit (s := S36) (k0_off1 i) S1.size (k0_off1_inb i)).shape.Idx) :
    S36.rowMajor ((Rect.unit (s := S36) (k0_off1 i) S1.size (k0_off1_inb i)).emb x) = (⟨(i 1).val, (i 1).isLt⟩ : Fin 36) := by
  have hx : (x 0).val < 1 := (x 0).isLt
  have h : S36.rowMajor ((Rect.unit (s := S36) (k0_off1 i) S1.size (k0_off1_inb i)).emb x)
      = ((Rect.unit (s := S36) (k0_off1 i) S1.size (k0_off1_inb i)).emb x) 0 := by
    exact Fin.ext (Shape.rowMajor_val_one _)
  rw [h]
  refine Fin.ext ?_
  have e : k0_off1 i 0 = (i 1).val := congrFun (k0_off1_eq i) 0
  show k0_off1 i 0 + 1 * (x 0).val = (i 1).val
  omega

theorem word0_at (c : Dev nD) (i : grid0.Coords) : word0 c i (tbl m 0) = lit0 ⟨(i 1).val, (i 1).isLt⟩ := by
  show (tbl m 0 : S36.Idx → BitVec 32) ((Rect.unit (s := S36) (k0_off1 i) S1.size (k0_off1_inb i)).emb _) = _
  rw [tbl0_eq]
  exact congrArg lit0 (table_at i _)

theorem word1_at (c : Dev nD) (i : grid0.Coords) : word1 c i (tbl m 1) = lit1 ⟨(i 1).val, (i 1).isLt⟩ := by
  show (tbl m 1 : S36.Idx → BitVec 32) ((Rect.unit (s := S36) (k0_off1 i) S1.size (k0_off1_inb i)).emb _) = _
  rw [tbl1_eq]
  exact congrArg lit1 (table_at i _)

theorem row_index (i : grid0.Coords) :
    cc0_transform_1 k0_off1_inb numel1_S1 (tbl m) i = ![(i 0).val, (lit0 ⟨(i 1).val, (i 1).isLt⟩).toNat, 0] := by
  have h : cc0_transform_1 k0_off1_inb numel1_S1 (tbl m) i = ![(BitVec.ofNat 32 (i 0).val).toNat, (word0 0 i (tbl m 0)).toNat, 0] := rfl
  rw [h, word0_at, coord0_word]

theorem col_index (i : grid0.Coords) :
    cc0_transform_2 k0_off1_inb numel1_S1 (tbl m) i = ![(i 0).val, 0, (lit1 ⟨(i 1).val, (i 1).isLt⟩).toNat] := by
  have h : cc0_transform_2 k0_off1_inb numel1_S1 (tbl m) i = ![(BitVec.ofNat 32 (i 0).val).toNat, 0, (word1 0 i (tbl m 1)).toNat] := rfl
  rw [h, word1_at, coord0_word]

/-- The batch of a grid position. -/
def bat (t : Fin grid0.N) : Fin 8 := (grid0.coords t) 0
/-- The tile pair of a grid position. -/
def pair (t : Fin grid0.N) : Fin 36 := (grid0.coords t) 1
/-- The row tile of a pair. -/
def rowT (p : Fin 36) : Fin 8 := ⟨(lit0 p).toNat, lit0_lt p⟩
/-- The column tile of a pair. -/
def colT (p : Fin 36) : Fin 8 := ⟨(lit1 p).toNat, lit1_lt p⟩
/-- Element `i` of tile `b` of 512. -/
def inTile (b : Fin 8) (i : Fin 512) : Fin 4096 := ⟨b.val * 512 + i.val, by omega⟩

theorem index1 (hO : Ok m) (t : Fin (cfgM m hO).N) : ((cfgM m hO).win 1).index t = ![(bat t).val, (rowT (pair t)).val, 0] :=
  row_index m (grid0.coords t)
theorem index2 (hO : Ok m) (t : Fin (cfgM m hO).N) : ((cfgM m hO).win 2).index t = ![(bat t).val, 0, (colT (pair t)).val] :=
  col_index m (grid0.coords t)
theorem index0 (hO : Ok m) (t : Fin (cfgM m hO).N) : ((cfgM m hO).win 0).index t = ![0] := rfl
theorem index3 (hO : Ok m) (t : Fin (cfgM m hO).N) : ((cfgM m hO).win 3).index t = ![0, 0] := rfl
theorem index4 (hO : Ok m) (t : Fin (cfgM m hO).N) : ((cfgM m hO).win 4).index t = ![0, 0] := rfl
theorem index5 (hO : Ok m) (t : Fin (cfgM m hO).N) : ((cfgM m hO).win 5).index t = ![(bat t).val, 0, 0] := by
  have h : ((cfgM m hO).win 5).index t = ![(BitVec.ofNat 32 ((grid0.coords t) 0).val).toNat, 0, 0] := rfl
  rw [h, coord0_word]
  rfl

theorem iblk0_eq (hO : Ok m) (c : Dev nD) (t : Fin (cfgM m hO).N) : iblk m hO c 0 t = V m c main_v2 := by
  funext y
  blk_ext [iblk, index0 m hO t]

theorem iblk3_eq (hO : Ok m) (c : Dev nD) (t : Fin (cfgM m hO).N) : iblk m hO c 3 t = V m c main_v10 := by
  funext y
  blk_ext [iblk, index3 m hO t]

theorem iblk4_eq (hO : Ok m) (c : Dev nD) (t : Fin (cfgM m hO).N) : iblk m hO c 4 t = V m c main_v31 := by
  funext y
  blk_ext [iblk, index4 m hO t]

theorem iblk1_eq (hO : Ok m) (c : Dev nD) (t : Fin (cfgM m hO).N) (i : Fin 512) (l : Fin 8) :
    iblk m hO c 1 t (ix3 (0 : Fin 1) i l) = V m c main_v0 (ix3 (bat t) (inTile (rowT (pair t)) i) l) := by
  blk_ext [iblk, index1 m hO t, inTile]

theorem iblk2_eq (hO : Ok m) (c : Dev nD) (t : Fin (cfgM m hO).N) (i : Fin 512) (l : Fin 8) :
    iblk m hO c 2 t (ix3 (0 : Fin 1) l i) = V m c main_v1 (ix3 (bat t) l (inTile (colT (pair t)) i)) := by
  blk_ext [iblk, index2 m hO t, inTile]

end Cert.KernelIdeal.Gen
-- ==== Proof.Accum.lean ====
module

public import proofs.«01_k».proof.Proof.Blocks

@[expose] public section
set_option maxRecDepth 16384
noncomputable section
open Idealize.ShloMosaic Idealize.ShloMosaic.TcCoe Idealize.ShloMosaic.Tactic
namespace Cert.KernelIdeal.Gen
variable (m : (ℓ : Loc nD τ sig) → Buf (Elt Ideal) ℓ)

/-- The squared distances of one tile, as the kernel computes them from the padded arrays. -/
def tileD (c : Dev nD) (q : Fin 8) (p : Fin 36) : FVec Ideal S512x512 .f32 :=
  k0_pay5 (lit0 p) (lit1 p)
    (fun y : S1x512x8.Idx => V m c main_v0 (ix3 q (inTile (rowT p) (y 1)) (y 2)))
    (fun y : S1x8x512.Idx => V m c main_v1 (ix3 q (y 1) (inTile (colT p) (y 2))))
    (V m c main_v10)

/-- The weight of a tile pair. -/
def tileW (p : Fin 36) : EReal := k0_pay6 (F := Ideal) (lit0 p) (lit1 p)

theorem blk1 (hO : Ok m) (c : Dev nD) (t : Fin (cfgM m hO).N) :
    iblk m hO c 1 t = fun y : S1x512x8.Idx => V m c main_v0 (ix3 (bat t) (inTile (rowT (pair t)) (y 1)) (y 2)) := by
  funext (y : S1x512x8.Idx)
  have e : y = ix3 (0 : Fin 1) (y 1) (y 2) := by
    funext d
    match d with
    | ⟨0, _⟩ => exact Subsingleton.elim (α := Fin 1) _ _
    | ⟨1, _⟩ => rfl
    | ⟨2, _⟩ => rfl
  exact (congrArg (iblk m hO c 1 t) e).trans (iblk1_eq m hO c t _ _)

theorem blk2 (hO : Ok m) (c : Dev nD) (t : Fin (cfgM m hO).N) :
    iblk m hO c 2 t = fun y : S1x8x512.Idx => V m c main_v1 (ix3 (bat t) (y 1) (inTile (colT (pair t)) (y 2))) := by
  funext (y : S1x8x512.Idx)
  have e : y = ix3 (0 : Fin 1) (y 1) (y 2) := by
    funext d
    match d with
    | ⟨0, _⟩ => exact Subsingleton.elim (α := Fin 1) _ _
    | ⟨1, _⟩ => rfl
    | ⟨2, _⟩ => rfl
  exact (congrArg (iblk m hO c 2 t) e).trans (iblk2_eq m hO c t _ _)

theorem step_eq (hO : Ok m) (c : Dev nD) (t : Fin (cfgM m hO).N) (A : Vec Ideal S32x512 .f32) :
    stepAcc (k0_pay5 (word0 c (grid0.coords t) (tbl m 0)) (word1 c (grid0.coords t) (tbl m 1)) (iblk m hO c 1 t) (iblk m hO c 2 t) (iblk m hO c 3 t))
        (k0_pay6 (word0 c (grid0.coords t) (tbl m 0)) (word1 c (grid0.coords t) (tbl m 1))) (iblk m hO c 0 t) A
      = stepAcc (tileD m c (bat t) (pair t)) (tileW (pair t)) (V m c main_v2) A := by
  rw [word0_at, word1_at, blk1, blk2, iblk3_eq, iblk0_eq]
  rfl

/-- The first tile of a batch starts from zero. -/
theorem acc_first (hO : Ok m) (c : Dev nD) (t : Fin (cfgM m hO).N) (h : t.val % 36 = 0) :
    (outsAt0 m hO c t.val t.isLt).2 = stepAcc (tileD m c (bat t) (pair t)) (tileW (pair t)) (V m c main_v2) (fun _ => (0 : Ideal .f32)) := by
  rw [outsAt0_A m hO c t h (by omega)]
  dsimp only; refine (sout_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) ((hcond0_0 t).mpr h) (fun h' => absurd ((hcond0_1 t).mp h') (by omega))).trans ?_
  exact step_eq m hO c t _

/-- A later tile adds to what the one before left. -/
theorem acc_next (hO : Ok m) (c : Dev nD) (t : Fin (cfgM m hO).N) (h : ¬t.val % 36 = 0) :
    (outsAt0 m hO c t.val t.isLt).2 = stepAcc (tileD m c (bat t) (pair t)) (tileW (pair t)) (V m c main_v2)
      (outsAt0 m hO c (t.val - 1) (Nat.lt_of_le_of_lt (Nat.sub_le _ _) t.isLt)).2 := by
  by_cases h1 : t.val % 36 = 35
  · rw [outsAt0_C m hO c t h h1]
    dsimp only; refine (sout_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 (fun h' => h ((hcond0_0 t).mp h')) ((hcond0_1 t).mpr h1)).trans ?_
    exact step_eq m hO c t _
  · rw [outsAt0_B m hO c t h h1]
    dsimp only; refine (sout_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 (fun h' => h ((hcond0_0 t).mp h')) (fun h' => h1 ((hcond0_1 t).mp h'))).trans ?_
    exact step_eq m hO c t _

/-- The last tile of a batch writes the closing formula of the accumulator. -/
theorem out_last (hO : Ok m) (c : Dev nD) (t : Fin (cfgM m hO).N) (h1 : t.val % 36 = 35) :
    (outsAt0 m hO c t.val t.isLt).1 = k0_pay2 (outsAt0 m hO c t.val t.isLt).2
      (fun x => (V m c main_v31 : Vec Ideal S32x128 .f32) ((Rect.unit (s := S32x128) ![0, 0] ![32, 1] inb_S32x128_S32x1_0_0).emb x)) := by
  rw [acc_next m hO c t (by omega), outsAt0_C m hO c t (by omega) h1]
  dsimp only; refine (out_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 (fun h' => absurd ((hcond0_0 t).mp h') (by omega)) ((hcond0_1 t).mpr h1)).trans ?_
  rw [iblk4_eq]
  exact congrArg (fun A => k0_pay2 A _) (step_eq m hO c t _)

/-- The weighted hits of a tile in one column. -/
def tileHits (c : Dev nD) (q : Fin 8) (k : Fin 20) (j : Fin 512) (p : ℕ) : EReal :=
  if h : p < 36 then
    ∑ i : Fin 512, if tileD m c q ⟨p, h⟩ (ix2 i j) < (V m c main_v2 : Vec Ideal S20 .f32) (ix1 k) then tileW ⟨p, h⟩ else 0
  else 0

theorem bat_val (t : Fin grid0.N) : (bat t).val = t.val / 36 := by
  revert t; decide +kernel
theorem pair_val (t : Fin grid0.N) : (pair t).val = t.val % 36 := by
  revert t; decide +kernel

theorem stepAcc_hit (c : Dev nD) (q : Fin 8) (p : Fin 36) (A : Vec Ideal S32x512 .f32) (k : Fin 20) (j : Fin 512) :
    stepAcc (tileD m c q p) (tileW p) (V m c main_v2) A (ix2 (⟨k.val, by omega⟩ : Fin 32) j)
      = A (ix2 (⟨k.val, by omega⟩ : Fin 32) j) + tileHits m c q k j p.val := by
  rw [tileHits, dif_pos p.isLt]
  exact dif_pos k.isLt

theorem stepAcc_rest (D : FVec Ideal S512x512 .f32) (w : EReal) (R : Vec Ideal S20 .f32) (A : Vec Ideal S32x512 .f32)
    (k : Fin 32) (j : Fin 512) (hk : 20 ≤ k.val) : stepAcc D w R A (ix2 k j) = A (ix2 k j) :=
  dif_neg (show ¬ k.val < 20 by omega)

/-- What the accumulator holds after a tile. -/
def AccAt (hO : Ok m) (c : Dev nD) (t : Fin (cfgM m hO).N) : Prop :=
    (∀ (k : Fin 20) (j : Fin 512), (outsAt0 m hO c t.val t.isLt).2 (ix2 (⟨k.val, by omega⟩ : Fin 32) j)
      = ∑ p ∈ Finset.range ((pair t).val + 1), tileHits m c (bat t) k j p) ∧
    (∀ (k : Fin 32) (j : Fin 512), 20 ≤ k.val → (outsAt0 m hO c t.val t.isLt).2 (ix2 k j) = (0 : EReal))

theorem accAt_first (hO : Ok m) (c : Dev nD) (t : Fin (cfgM m hO).N) (h0 : t.val % 36 = 0) : AccAt m hO c t := by
  have hp := pair_val t
  unfold AccAt
  rw [acc_first m hO c t h0]
  refine ⟨fun k j => ?_, fun k j hk => stepAcc_rest _ _ _ _ k j hk⟩
  rw [stepAcc_hit, Finset.sum_range_succ]
  have z : (pair t).val = 0 := by omega
  rw [z, Finset.sum_range_zero]

theorem accAt_next (hO : Ok m) (c : Dev nD) (t : Fin (cfgM m hO).N) (h0 : ¬t.val % 36 = 0)
    (ih : AccAt m hO c ⟨t.val - 1, Nat.lt_of_le_of_lt (Nat.sub_le _ _) t.isLt⟩) : AccAt m hO c t := by
  have hp := pair_val t
  have hb := bat_val t
  have hp' := pair_val ⟨t.val - 1, Nat.lt_of_le_of_lt (Nat.sub_le _ _) t.isLt⟩
  have hb' := bat_val ⟨t.val - 1, Nat.lt_of_le_of_lt (Nat.sub_le _ _) t.isLt⟩
  have eb : bat ⟨t.val - 1, Nat.lt_of_le_of_lt (Nat.sub_le _ _) t.isLt⟩ = bat t := Fin.ext (by rw [hb, hb']; dsimp only; omega)
  have ep : (pair ⟨t.val - 1, Nat.lt_of_le_of_lt (Nat.sub_le _ _) t.isLt⟩).val + 1 = (pair t).val := by rw [hp, hp']; dsimp only; omega
  obtain ⟨i1, i2⟩ := ih
  rw [eb, ep] at i1
  unfold AccAt
  rw [acc_next m hO c t h0]
  refine ⟨fun k j => ?_, fun k j hk => (stepAcc_rest _ _ _ _ k j hk).trans (i2 k j hk)⟩
  rw [stepAcc_hit, Finset.sum_range_succ]
  exact congrArg (· + _) (i1 k j)

/-- The accumulator after a tile: the hits of the batch's tiles so far. -/
theorem accAt (hO : Ok m) (c : Dev nD) (t : Fin (cfgM m hO).N) : AccAt m hO c t := by
  obtain ⟨n, hn⟩ := t
  induction n with
  | zero => exact accAt_first m hO c _ rfl
  | succ n ih =>
    by_cases h0 : (n + 1) % 36 = 0
    · exact accAt_first m hO c _ h0
    · exact accAt_next m hO c ⟨n + 1, hn⟩ h0 (ih (Nat.lt_of_succ_lt hn))

end Cert.KernelIdeal.Gen
-- ==== Proof.Out.lean ====
module

public import proofs.«01_k».proof.Proof.Accum
public import Idealize.ShloMosaic.Lib.Pipeline.Covers

@[expose] public section
set_option maxRecDepth 16384
noncomputable section
open Idealize.ShloMosaic Idealize.ShloMosaic.TcCoe Idealize.ShloMosaic.Tactic
namespace Cert.KernelIdeal.Gen
variable (m : (ℓ : Loc nD τ sig) → Buf (Elt Ideal) ℓ)

/-- The last point of a batch. -/
def lastPt (hO : Ok m) (q : Fin 8) : Fin (cfgM m hO).N := ⟨36 * q.val + 35, by have := q.isLt; rw [show (cfgM m hO).N = 288 from N_0]; omega⟩

/-- The weight column as the kernel loads it. -/
def wcol (c : Dev nD) : Vec Ideal S32x1 .f32 :=
  fun x => (V m c main_v31 : Vec Ideal S32x128 .f32) ((Rect.unit (s := S32x128) ![0, 0] ![32, 1] inb_S32x128_S32x1_0_0).emb x)

theorem covers5 (hO : Ok m) : ((cfgM m hO).win 5).Covers := by
  refine Pipeline.Window.covers_of_index_surj _ rfl (fun a => ?_) fun β => ?_
  · revert a
    exact (by decide : ∀ a : Fin 3, 0 < S1x1x128.size a)
  · have h0 : (β (0 : Fin 3)).val < 8 := lt_of_lt_of_eq (β (0 : Fin 3)).isLt (by unfold Pipeline.Window.nblk; exact (by decide : (8 + 1 - 1) / 1 = 8) : ((cfgM m hO).win 5).nblk (0 : Fin 3) = 8)
    have h1 : (β (1 : Fin 3)).val < 1 := lt_of_lt_of_eq (β (1 : Fin 3)).isLt (by unfold Pipeline.Window.nblk; exact (by decide : (1 + 1 - 1) / 1 = 1) : ((cfgM m hO).win 5).nblk (1 : Fin 3) = 1)
    have h2 : (β (2 : Fin 3)).val < 1 := lt_of_lt_of_eq (β (2 : Fin 3)).isLt (by unfold Pipeline.Window.nblk; exact (by decide : (128 + 128 - 1) / 128 = 1) : ((cfgM m hO).win 5).nblk (2 : Fin 3) = 1)
    have hb := bat_val (lastPt m hO ⟨(β (0 : Fin 3)).val, h0⟩)
    refine ⟨lastPt m hO ⟨(β (0 : Fin 3)).val, h0⟩, fun a => ?_⟩
    rw [index5]
    have hb' : (bat (lastPt m hO ⟨(β (0 : Fin 3)).val, h0⟩)).val = (β (0 : Fin 3)).val := by
      rw [hb]; show (36 * (β (0 : Fin 3)).val + 35) / 36 = _; omega
    match a with
    | ⟨0, _⟩ => exact hb'
    | ⟨1, _⟩ => exact (Nat.lt_one_iff.mp h1).symm
    | ⟨2, _⟩ => exact (Nat.lt_one_iff.mp h2).symm

theorem emb5 (hO : Ok m) (t : Fin (cfgM m hO).N) (y : S1x1x128.Idx) :
    ((((cfgM m hO).win 5).blk t).view.emb y : S8x1x128.Idx) = ix3 (bat t) (0 : Fin 1) (y 2) := by
  have y0 : (y 0).val < 1 := (y 0).isLt
  funext d
  refine Fin.ext ?_
  match d with
  | ⟨0, _⟩ =>
    have e : ((((cfgM m hO).win 5).blk t).view.emb y (0 : Fin 3) : ℕ) = (bat t).val * 1 + (y 0).val := by
      blk_simp [index5 m hO t]
    refine e.trans ?_
    show (bat t).val * 1 + (y 0).val = (bat t).val
    omega
  | ⟨1, _⟩ => exact congrArg Fin.val (Subsingleton.elim (α := Fin 1) _ _)
  | ⟨2, _⟩ =>
    have e : ((((cfgM m hO).win 5).blk t).view.emb y (2 : Fin 3) : ℕ) = 0 * 128 + (y 2).val := by
      blk_simp [index5 m hO t]
    refine e.trans ?_
    show 0 * 128 + (y 2).val = (y 2).val
    omega

/-- The output array after the run. -/
theorem arr5 (hO : Ok m) (c : Dev nD) : (dats m hO 0 c).arrAt 5 (cfgM m hO).N
    = (fun y : S8x1x128.Idx => k0_pay2 (outsAt0 m hO c (lastPt m hO (y 0)).val (lastPt m hO (y 0)).isLt).2 (wcol m c) (ix3 (0 : Fin 1) (0 : Fin 1) (y 2))) := by
  refine (dats m hO 0 c).arrAt_eq_of_covers 5 _ (covers5 m hO) fun t hf (y : S1x1x128.Idx) => ?_
  have h35 : t.val % 36 = 35 := (flush0_5 _ t).mp hf
  have hb := bat_val t
  have hT : lastPt m hO (bat t) = t := by
    refine Fin.ext ?_
    show 36 * (bat t).val + 35 = t.val
    omega
  have he : (ix3 (0 : Fin 1) (0 : Fin 1) (y 2) : S1x1x128.Idx) = y := by
    funext d
    match d with
    | ⟨0, _⟩ => exact Subsingleton.elim (α := Fin 1) _ _
    | ⟨1, _⟩ => exact Subsingleton.elim (α := Fin 1) _ _
    | ⟨2, _⟩ => rfl
  rw [emb5 m hO t y]
  blk_simp
  rw [after0_5, out_last m hO c t h35]
  show k0_pay2 (outsAt0 m hO c t.val t.isLt).2 (wcol m c) y
    = k0_pay2 (outsAt0 m hO c (lastPt m hO (bat t)).val (lastPt m hO (bat t)).isLt).2 (wcol m c) (ix3 (0 : Fin 1) (0 : Fin 1) (y 2))
  rw [hT, he]

/-- The clipped slope, from the accumulated counts. -/
def closing (acc : Vec Ideal S32x512 .f32) (w : Vec Ideal S32x1 .f32) : EReal :=
  min (Ideal.ofBits .f32 0x40400000#32) (max (Ideal.ofBits .f32 0x3DCCCCCD#32)
    (∑ x : Fin 32, w (ix2 x (0 : Fin 1)) * Ideal.log (Ideal.div (∑ j : Fin 512, acc (ix2 x j)) (Ideal.ofBits .f32 0x4B7FF000#32) + Ideal.ofBits .f32 0x322BCC77#32)))

theorem pay2_eq (acc : Vec Ideal S32x512 .f32) (w : Vec Ideal S32x1 .f32) (l : Fin 128) :
    k0_pay2 acc w (ix3 (0 : Fin 1) (0 : Fin 1) l) = closing acc w := by
  pointwise [k0_pay2]
  simp only [Finset.univ_unique, Finset.sum_singleton]
  rfl

/-- The result, one slope per batch. -/
def kres (hO : Ok m) (c : Dev nD) : Vec Ideal S8 .f32 :=
  fun y => closing (outsAt0 m hO c (lastPt m hO (y 0)).val (lastPt m hO (y 0)).isLt).2 (wcol m c)

theorem tail_v34 (hO : Ok m) (c : Dev nD) :
    Pipeline.afterTail pcfgs (fun _ => adm m hO) (dats m hO) 0 (V0 m) [hostOps1] c main_v34 = kres m hO c := by
  unfold Pipeline.afterTail
  simp only [hostOps1, List.flatten_cons, List.flatten_nil, List.append_nil, List.cons_append, List.nil_append]
  after_results
  rw [show Pipeline.withArrays (Pipeline.pin pcfgs (fun x => adm m hO) 0).spec c (V0 m c)
      (fun w => (dats m hO 0 c).arrAt w (Pipeline.pin pcfgs (fun x => adm m hO) 0).N) (Proc.tc.devRef main_v32) = _ from
    (Pipeline.withArrays_arr spec0 (by decide) c (V0 m c) (fun w => (dats m hO 0 c).arrAt w (Pipeline.pin pcfgs (fun x => adm m hO) 0).N) 5).trans (arr5 m hO c)]
  funext y
  have e : y = ix1 (y 0) := by
    funext d
    match d with
    | ⟨0, _⟩ => rfl
  rw [e]
  dsimp only
  pointwise
  exact pay2_eq _ _ _

theorem kernel_run (ρ : _) (hO : Ok m) : θ_run defs (onTc (τ := τ) (main (F := Ideal))) ⟨m, fun _ => 0, ρ⟩ (fun r => ∀ c : Dev nD,
      r.2.mem ((c.tc : Thread nD τ).loc main_v34) = kres m hO c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (Gen.run_main m ρ hO)
  have hc := h c
  refine ⟨(hc.2 main_v34 (by exact (by decide : main_v34 ∈ Pipeline.restRefs sig spec0))).trans (tail_v34 m hO c), (hc.2 main_arg0 (by exact (by decide : main_arg0 ∈ Pipeline.restRefs sig spec0))).trans (W_main_arg0 m hO _ c), (hc.2 main_arg1 (by exact (by decide : main_arg1 ∈ Pipeline.restRefs sig spec0))).trans (W_main_arg1 m hO _ c)⟩

end Cert.KernelIdeal.Gen
-- ==== Proof.Host.lean ====
module

public import proofs.«01_k».proof.Proof.Blocks
public import Idealize.ShloMosaic.Lib.Routing.OpsPair

@[expose] public section
set_option maxRecDepth 16384
noncomputable section
open Idealize.ShloMosaic Idealize.ShloMosaic.TcCoe Idealize.ShloMosaic.Tactic
namespace Cert.KernelIdeal.Gen
variable (m : (ℓ : Loc nD τ sig) → Buf (Elt Ideal) ℓ)

/-- The trajectory and the radii as launched. -/
abbrev argT (c : Dev nD) : Vec Ideal S8x4096x3 .f32 := m ((c : Thread nD τ).loc main_arg0)
abbrev argR (c : Dev nD) : Vec Ideal S20 .f32 := m ((c : Thread nD τ).loc main_arg1)

theorem V_main_v0 (c : Dev nD) : V m c main_v0 = pad S8x4096x8 ![0, 0, 0] ![0, 0, 5] ![0, 0, 0] (argT m c) (sitofp (F := Ideal) .f32 (constantI S_ 32 0#32)) pads_S8x4096x3_S8x4096x8_000_000_050 h_S_ := by
  unfold V V0 hostOps0 hostOps0_1 hostOps0_2
  simp only [List.flatten_cons, List.flatten_nil, List.append_nil, List.cons_append, List.nil_append]
  after_results
  rfl
theorem V_main_v1 (c : Dev nD) : V m c main_v1 = transpose S8x8x4096 [0, 2, 1] (V m c main_v0) transposes_S8x4096x8_S8x8x4096_0_2_1 := by
  rw [V_main_v0]
  unfold V V0 hostOps0 hostOps0_1 hostOps0_2
  simp only [List.flatten_cons, List.flatten_nil, List.append_nil, List.cons_append, List.nil_append]
  after_results
  rfl
theorem V_main_v2 (c : Dev nD) : V m c main_v2 = (mulf (argR m c) (argR m c) : FVec Ideal S20 .f32) := by
  unfold V V0 hostOps0 hostOps0_1 hostOps0_2
  simp only [List.flatten_cons, List.flatten_nil, List.append_nil, List.cons_append, List.nil_append]
  after_results
theorem V_main_v10 (c : Dev nD) : V m c main_v10 = (mulf (broadcastInDim S512x512 ![] bcast_S_S512x512 (constant (F := Ideal) S_ .f32 0x7149F2CA#32))
    (uitofp .f32 (cmpi .eq (addi (iotaInDim S512x512 32 0) (broadcastInDim S512x512 ![] bcast_S_S512x512 (constantI S_ 32 0#32))) (iotaInDim S512x512 32 1))) : FVec Ideal S512x512 .f32) := by
  unfold V V0 hostOps0 hostOps0_1 hostOps0_2
  simp only [List.flatten_cons, List.flatten_nil, List.append_nil, List.cons_append, List.nil_append]
  after_results

theorem zero_word : FloatOps.sitofp (F := Ideal) (w := 32) .f32 0#32 = (0 : EReal) := by
  show (((0#32 : BitVec 32).toInt : ℝ) : EReal) = 0
  simp

theorem host_x (c : Dev nD) (b : Fin 8) (n : Fin 4096) (l : Fin 8) : (V m c main_v0 : Vec Ideal S8x4096x8 .f32) (ix3 b n l) = if h : l.val < 3 then argT m c (ix3 b n (⟨l.val, h⟩ : Fin 3)) else 0 := by
  rw [V_main_v0]
  pointwise
  rw [zero_word]

theorem host_xt (c : Dev nD) (b : Fin 8) (n : Fin 4096) (l : Fin 8) : (V m c main_v1 : Vec Ideal S8x8x4096 .f32) (ix3 b l n) = (V m c main_v0 : Vec Ideal S8x4096x8 .f32) (ix3 b n l)  := by
  rw [V_main_v1]
  pointwise

theorem host_r (c : Dev nD) (k : Fin 20) : (V m c main_v2 : Vec Ideal S20 .f32) (ix1 k) = (argR m c (ix1 k) * argR m c (ix1 k) : EReal) := by
  rw [V_main_v2]
  rfl

theorem host_mask (c : Dev nD) (i j : Fin 512) : (V m c main_v10 : Vec Ideal S512x512 .f32) (ix2 i j) = Ideal.ofBits .f32 0x7149F2CA#32 * (if i = j then 1 else 0 : EReal) := by
  rw [V_main_v10]
  pointwise
  refine congrArg (Ideal.ofBits .f32 0x7149F2CA#32 * ·) ?_
  show (((BitVec.ofBool (BitVec.ofNat 32 i.val + 0#32 == BitVec.ofNat 32 j.val)).toNat : ℝ) : EReal) = _
  by_cases h : i = j
  · subst h; simp
  · have hn : ¬ (BitVec.ofNat 32 i.val + 0#32 = BitVec.ofNat 32 j.val) := by
      intro e
      have e' := congrArg BitVec.toNat e
      have hi := i.isLt
      have hj := j.isLt
      rw [BitVec.add_zero, BitVec.toNat_ofNat, BitVec.toNat_ofNat, Nat.mod_eq_of_lt (by omega), Nat.mod_eq_of_lt (by omega)] at e'
      exact h (Fin.ext e')
    rw [beq_eq_false_iff_ne.mpr hn, if_neg h]
    simp

/-- A scatter's fold at an index no update lands on. -/
theorem fold_miss {α β ι : Type} [DecidableEq ι] (g : β → Option ι) (f : α → α → α) (u : β → α) (i : ι) (L : List β) (x : ι → α)
    (h : ∀ n ∈ L, g n ≠ some i) :
    L.foldl (fun r n => match g n with | some i => fun i' => if i' = i then f (r i) (u n) else r i' | none => r) x i = x i := by
  induction L generalizing x with
  | nil => rfl
  | cons n L ih =>
    rw [List.foldl_cons, ih _ fun n' hn => h n' (List.mem_cons_of_mem _ hn)]
    have h0 := h n List.mem_cons_self
    cases hg : g n with
    | none => rfl
    | some i' => exact if_neg fun e => h0 (hg.trans (congrArg some e.symm))

/-- A scatter's fold at an index one update lands on. -/
theorem fold_hit {α β ι : Type} [DecidableEq ι] (g : β → Option ι) (f : α → α → α) (u : β → α) (i : ι) (n₀ : β) (L : List β) (x : ι → α)
    (hL : L.Nodup) (hm : n₀ ∈ L) (h0 : g n₀ = some i) (h : ∀ n ∈ L, g n = some i → n = n₀) :
    L.foldl (fun r n => match g n with | some i => fun i' => if i' = i then f (r i) (u n) else r i' | none => r) x i = f (x i) (u n₀) := by
  induction L generalizing x with
  | nil => cases hm
  | cons n L ih =>
    rw [List.foldl_cons]
    by_cases e : n = n₀
    · subst e
      rw [fold_miss g f u i L _ fun n' hn e' => (List.nodup_cons.mp hL).1 ((h n' (List.mem_cons_of_mem _ hn) e') ▸ hn)]
      rw [h0]
      exact if_pos rfl
    · rw [ih _ (List.nodup_cons.mp hL).2 ((List.mem_cons.mp hm).resolve_left fun e' => e e'.symm) fun n' hn => h n' (List.mem_cons_of_mem _ hn)]
      refine congrArg (fun z => f z (u n₀)) ?_
      cases hg : g n with
      | none => rfl
      | some i' => exact if_neg fun e' => e (h n List.mem_cons_self (hg.trans (congrArg some e'.symm)))

theorem scatter_miss {α : Type} {s si u : Shape} {w : ℕ} (d : ScatterDims s si u) (f : α → α → α) (x : s.Idx → α) (idx : IVec si w) (upd : u.Idx → α)
    (i : s.Idx) (h : ∀ j, d.resultIdx? j idx ≠ some i) : Host.scatter d f x idx upd i = x i := by
  refine Eq.trans (congrFun (congrArg (fun st => List.foldl st x _) ?_) i)
    (fold_miss (fun n => d.resultIdx? (u.rowMajor.symm n) idx) f (fun n => upd (u.rowMajor.symm n)) i (List.finRange u.numel) x fun n _ => h _)
  funext r n
  cases d.resultIdx? (u.rowMajor.symm n) idx <;> rfl

theorem scatter_hit {α : Type} {s si u : Shape} {w : ℕ} (d : ScatterDims s si u) (f : α → α → α) (x : s.Idx → α) (idx : IVec si w) (upd : u.Idx → α)
    (i : s.Idx) (j : u.Idx) (h0 : d.resultIdx? j idx = some i) (h : ∀ j', d.resultIdx? j' idx = some i → j' = j) :
    Host.scatter d f x idx upd i = f (x i) (upd j) := by
  have e := fold_hit (fun n => d.resultIdx? (u.rowMajor.symm n) idx) f (fun n => upd (u.rowMajor.symm n)) i (u.rowMajor j) (List.finRange u.numel) x
    (List.nodup_finRange _) (List.mem_finRange _) (by rw [Equiv.symm_apply_apply]; exact h0) fun n _ hn => by
      rw [← h _ hn, Equiv.apply_symm_apply]
  rw [Equiv.symm_apply_apply] at e
  refine Eq.trans (congrFun (congrArg (fun st => List.foldl st x _) ?_) i) e
  funext r n
  cases d.resultIdx? (u.rowMajor.symm n) idx <;> rfl

abbrev sd1 := scatter_S20_S1_S19_0_n_0_0
abbrev sd2 := scatter_S32x128_S1_S20x128_01_n_0_0

theorem sd1_start (j : S19.Idx) (v : BitVec 32) : sd1.start j (broadcastInDim S1 ![] bcast_S_S1 (constantI S_ 32 v)) 0 = v.toInt := rfl
theorem sd1_window (j : S19.Idx) : sd1.window j 0 = (j 0).val := rfl
theorem sd2_start0 (j : S20x128.Idx) (v : BitVec 32) : sd2.start j (broadcastInDim S1 ![] bcast_S_S1 (constantI S_ 32 v)) 0 = v.toInt := rfl
theorem sd2_start1 (j : S20x128.Idx) (v : BitVec 32) : sd2.start j (broadcastInDim S1 ![] bcast_S_S1 (constantI S_ 32 v)) 1 = 0 := rfl
theorem sd2_window0 (j : S20x128.Idx) : sd2.window j 0 = (j 0).val := rfl
theorem sd2_window1 (j : S20x128.Idx) : sd2.window j 1 = (j 1).val := rfl

/-- Adding nineteen numbers into twenty from an offset: inside. -/
theorem add_hit (x : Vec Ideal S20 .f32) (u : Vec Ideal S19 .f32) (v : BitVec 32) (o : ℕ) (hv : v.toInt = o) (k : Fin 20) (j : Fin 19) (h : o + j.val = k.val) :
    Host.scatter (α := EReal) sd1 (FloatOps.addf (F := Ideal) (φ := .f32)) x (broadcastInDim S1 ![] bcast_S_S1 (constantI S_ 32 v)) u (ix1 k) = (x (ix1 k) + u (ix1 j) : EReal) := by
  refine scatter_hit sd1 _ x _ u (ix1 k) (ix1 j) ?_ fun j' hj' => ?_
  · refine (Routing.resultIdx?_ix1 (N := 20) sd1 _ _ k).mpr ?_
    rw [sd1_start, sd1_window, hv]
    show (o : ℤ) + (j.val : ℤ) = k.val
    omega
  · replace hj' := (Routing.resultIdx?_ix1 (N := 20) sd1 _ _ k).mp hj'
    rw [sd1_start, sd1_window, hv] at hj'
    funext a
    match a with
    | ⟨0, _⟩ =>
      refine Fin.ext ?_
      show (j' 0).val = j.val
      omega

theorem add_miss (x : Vec Ideal S20 .f32) (u : Vec Ideal S19 .f32) (v : BitVec 32) (o : ℕ) (hv : v.toInt = o) (k : Fin 20) (h : k.val < o ∨ o + 19 ≤ k.val) :
    Host.scatter (α := EReal) sd1 (FloatOps.addf (F := Ideal) (φ := .f32)) x (broadcastInDim S1 ![] bcast_S_S1 (constantI S_ 32 v)) u (ix1 k) = x (ix1 k) := by
  refine scatter_miss sd1 _ x _ u (ix1 k) fun j hj => ?_
  replace hj := (Routing.resultIdx?_ix1 (N := 20) sd1 _ _ k).mp hj
  rw [sd1_start, sd1_window, hv] at hj
  have := (j 0).isLt
  have h19 : S19.size 0 = 19 := rfl
  omega

theorem set_hit (x : Vec Ideal S32x128 .f32) (u : Vec Ideal S20x128 .f32) (k : Fin 20) (l : Fin 128) :
    Host.scatter sd2 (fun _ b => b) x (broadcastInDim S1 ![] bcast_S_S1 (constantI S_ 32 0#32)) u (ix2 (⟨k.val, by omega⟩ : Fin 32) l) = u (ix2 k l) := by
  refine scatter_hit sd2 _ x _ u _ (ix2 k l) ?_ fun j' hj' => ?_
  · refine (Routing.resultIdx?_ix2 (R := 32) (C := 128) sd2 _ _ _ _).mpr ?_
    rw [sd2_start0, sd2_window0, sd2_start1, sd2_window1]
    exact ⟨by show (0 : ℤ) + (k.val : ℤ) = k.val; omega, by show (0 : ℤ) + (l.val : ℤ) = l.val; omega⟩
  · replace hj' := (Routing.resultIdx?_ix2 (R := 32) (C := 128) sd2 _ _ _ _).mp hj'
    rw [sd2_start0, sd2_window0, sd2_start1, sd2_window1] at hj'
    obtain ⟨h0, h1⟩ := hj'
    have e0 : (0#32 : BitVec 32).toInt = 0 := rfl
    funext a
    match a with
    | ⟨0, _⟩ => exact Fin.ext (by show (j' 0).val = k.val; dsimp only at h0; omega)
    | ⟨1, _⟩ => exact Fin.ext (by show (j' 1).val = l.val; dsimp only at h1; omega)

theorem set_miss (x : Vec Ideal S32x128 .f32) (u : Vec Ideal S20x128 .f32) (k : Fin 32) (l : Fin 128) (h : 20 ≤ k.val) :
    Host.scatter sd2 (fun _ b => b) x (broadcastInDim S1 ![] bcast_S_S1 (constantI S_ 32 0#32)) u (ix2 k l) = x (ix2 k l) := by
  refine scatter_miss sd2 _ x _ u _ fun j hj => ?_
  replace hj := ((Routing.resultIdx?_ix2 (R := 32) (C := 128) sd2 _ _ _ _).mp hj).1
  rw [sd2_start0, sd2_window0] at hj
  have e0 : (0#32 : BitVec 32).toInt = 0 := rfl
  have := (j 0).isLt
  have h20 : S20x128.size 0 = 20 := rfl
  omega

/-- The step between two logarithms of radii, and its weight in the mean slope. -/
def logR (c : Dev nD) (k : Fin 20) : EReal := Ideal.log (argR m c (ix1 k) + Ideal.ofBits .f32 0x322BCC77#32)
def invD (c : Dev nD) (k : Fin 19) : EReal :=
  Ideal.div (Ideal.div 1 (logR m c ⟨k.val + 1, by omega⟩ - logR m c ⟨k.val, by omega⟩)) (Ideal.ofBits .f32 0x41980000#32)

def vLog (c : Dev nD) : FVec Ideal S20 .f32 := Host.log (addf (argR m c) (broadcastInDim S20 ![] bcast_S_S20 (constant S_ .f32 0x322BCC77#32)))
def vInv (c : Dev nD) : FVec Ideal S19 .f32 :=
  Host.divf (Host.divf (broadcastInDim S19 ![] bcast_S_S19 (constant S_ .f32 0x3F800000#32))
    (subf (extractStridedSlice S19 ![1] (vLog m c) slices_S20_S19_1) (extractStridedSlice S19 ![0] (vLog m c) slices_S20_S19_0)))
    (broadcastInDim S19 ![] bcast_S_S19 (constant S_ .f32 0x41980000#32))
def vNeg (c : Dev nD) : FVec Ideal S20 .f32 :=
  Host.scatter sd1 FloatOps.addf (broadcastInDim S20 ![] bcast_S_S20 (constant (F := Ideal) S_ .f32 0x00000000#32)) (broadcastInDim S1 ![] bcast_S_S1 (constantI S_ 32 0#32)) (Host.negf (vInv m c))
def vWt (c : Dev nD) : FVec Ideal S20 .f32 :=
  Host.scatter sd1 FloatOps.addf (vNeg m c) (broadcastInDim S1 ![] bcast_S_S1 (constantI S_ 32 1#32)) (vInv m c)

theorem V_main_v31 (c : Dev nD) : V m c main_v31 = (Host.scatter sd2 (fun _ b => b) (broadcastInDim S32x128 ![] bcast_S_S32x128 (constant (F := Ideal) S_ .f32 0x00000000#32))
    (broadcastInDim S1 ![] bcast_S_S1 (constantI S_ 32 0#32)) (broadcastInDim S20x128 ![0, 1] bcast_S20x1_S20x128_0_1 (broadcastInDim S20x1 ![0] bcast_S20_S20x1_0 (vWt m c))) : FVec Ideal S32x128 .f32) := by
  unfold V V0 hostOps0 hostOps0_1 hostOps0_2
  simp only [List.flatten_cons, List.flatten_nil, List.append_nil, List.cons_append, List.nil_append]
  after_results
  rfl

theorem vInv_apply (c : Dev nD) (k : Fin 19) : vInv m c (ix1 k) = invD m c k := by
  pointwise [vInv, vLog]
  unfold invD logR
  have e : (⟨1 + k.val, by omega⟩ : Fin 20) = ⟨k.val + 1, by omega⟩ := Fin.ext (by show 1 + k.val = k.val + 1; omega)
  rw [e]

/-- The weight of a radius: minus the weight of the step above it, plus the weight of the step below it. -/
def wt (c : Dev nD) (k : Fin 20) : EReal :=
  (if h : k.val < 19 then -invD m c ⟨k.val, h⟩ else 0) + (if h : 0 < k.val then invD m c ⟨k.val - 1, by omega⟩ else 0)

theorem vNeg_apply (c : Dev nD) (k : Fin 20) : vNeg m c (ix1 k) = (if h : k.val < 19 then -invD m c ⟨k.val, h⟩ else 0 : EReal) := by
  have z : (broadcastInDim S20 ![] bcast_S_S20 (constant (F := Ideal) S_ .f32 0x00000000#32)) (ix1 k) = (0 : EReal) := by pointwise
  by_cases h : k.val < 19
  · rw [dif_pos h]
    refine (add_hit _ _ 0#32 0 rfl k ⟨k.val, h⟩ (by show 0 + k.val = k.val; omega)).trans ?_
    rw [z, zero_add, ← vInv_apply]
    rfl
  · rw [dif_neg h]
    exact (add_miss _ _ 0#32 0 rfl k (by omega)).trans z

theorem vWt_apply (c : Dev nD) (k : Fin 20) : vWt m c (ix1 k) = wt m c k := by
  unfold wt
  rw [← vNeg_apply]
  by_cases h : 0 < k.val
  · rw [dif_pos h, ← vInv_apply]
    exact add_hit _ _ 1#32 1 rfl k ⟨k.val - 1, by omega⟩ (by show 1 + (k.val - 1) = k.val; omega)
  · rw [dif_neg h, add_zero]
    exact add_miss _ _ 1#32 1 rfl k (by omega)

theorem host_w (c : Dev nD) (k : Fin 32) (l : Fin 128) : (V m c main_v31 : Vec Ideal S32x128 .f32) (ix2 k l) = if h : k.val < 20 then wt m c ⟨k.val, h⟩ else 0 := by
  rw [V_main_v31]
  by_cases h : k.val < 20
  · rw [dif_pos h, ← vWt_apply]
    refine (set_hit _ _ ⟨k.val, h⟩ l).trans ?_
    pointwise
  · rw [dif_neg h, set_miss _ _ k l (by omega)]
    pointwise

end Cert.KernelIdeal.Gen
-- ==== Proof.Math.lean ====
module

public import proofs.«01_k».proof.Proof.Rows

@[expose] public section
set_option maxRecDepth 16384
noncomputable section
open Idealize.ShloMosaic
namespace Cert.Pairs

/-! ## Constants -/

def epsR : ℝ := 11258999 / 2 ^ 50
theorem eps_eq : Ideal.ofBits .f32 0x322BCC77#32 = ((epsR : ℝ) : EReal) := by
  unfold epsR
  simp [Ideal.ofBits, Ideal.ieee, -EReal.coe_mul]; norm_num
theorem eps_pos : 0 < epsR := by unfold epsR; positivity
theorem total_eq : Ideal.ofBits .f32 0x4B7FF000#32 = ((16773120 : ℝ) : EReal) := by
  simp [Ideal.ofBits, Ideal.ieee, -EReal.coe_mul]
theorem nineteen_eq : Ideal.ofBits .f32 0x41980000#32 = ((19 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
def bigR : ℝ := 13234890 * 2 ^ 76
theorem big_eq : Ideal.ofBits .f32 0x7149F2CA#32 = ((bigR : ℝ) : EReal) := by
  unfold bigR
  simp [Ideal.ofBits, Ideal.ieee, -EReal.coe_mul]

/-! ## Division, logarithm, square root at reals -/

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]
theorem log_real (x : ℝ) (hx : 0 < x) : Ideal.log (x : EReal) = ((Real.log x : ℝ) : EReal) := by
  show (if x ≤ 0 then ⊥ else (Real.log x : EReal)) = _
  rw [if_neg (not_le.mpr hx)]
theorem sqrt_real (x : ℝ) (hx : 0 ≤ x) : Ideal.sqrt (x : EReal) = ((Real.sqrt x : ℝ) : EReal) := by
  show (if x < 0 then ⊥ else (Real.sqrt x : EReal)) = _
  rw [if_neg (not_lt.mpr hx)]

/-! ## The logarithm of a count -/

def lg (n : ℕ) : ℝ := Real.log (n / 16773120 + epsR)
theorem log_count (n : ℕ) : Ideal.log (Ideal.div ((n : ℝ) : EReal) (Ideal.ofBits .f32 0x4B7FF000#32) + Ideal.ofBits .f32 0x322BCC77#32) = ((lg n : ℝ) : EReal) := by
  have := eps_pos
  rw [total_eq, eps_eq, div_real _ _ (by norm_num), ← EReal.coe_add, log_real _ (by positivity)]
  rfl
theorem lg_ne (n : ℕ) : lg n ≠ 0 := by
  have he := eps_pos
  have hp : (0 : ℝ) < n / 16773120 + epsR := by positivity
  intro h
  have h1 : (n : ℝ) / 16773120 + epsR = 1 := Real.eq_one_of_pos_of_log_eq_zero hp h
  unfold epsR at h1
  have h2 : (n : ℝ) * 2 ^ 50 + 11258999 * 16773120 = 16773120 * 2 ^ 50 := by
    field_simp at h1
    linarith
  have h3 : n * 2 ^ 50 + 11258999 * 16773120 = 16773120 * 2 ^ 50 := by exact_mod_cast h2
  omega

def rho (r : ℝ) : ℝ := Real.log (r + epsR)
theorem log_radius (r : ℝ) (hr : 0 < r) : Ideal.log ((r : EReal) + Ideal.ofBits .f32 0x322BCC77#32) = ((rho r : ℝ) : EReal) := by
  have := eps_pos
  rw [eps_eq, ← EReal.coe_add, log_real _ (by positivity)]
  rfl
theorem rho_inj (r s : ℝ) (hr : 0 < r) (hs : 0 < s) (h : rho r = rho s) : r = s := by
  have := eps_pos
  have e := Real.log_injOn_pos (show r + epsR ∈ Set.Ioi 0 by show 0 < r + epsR; positivity) (show s + epsR ∈ Set.Ioi 0 by show 0 < s + epsR; positivity) h
  linarith

/-! ## The mean slope two ways -/

def invG (ρ : Fin 20 → ℝ) (k : Fin 19) : EReal := Ideal.div (Ideal.div 1 ((ρ k.succ : EReal) - ρ k.castSucc)) (Ideal.ofBits .f32 0x41980000#32)
def wtG (ρ : Fin 20 → ℝ) (k : Fin 20) : EReal :=
  (if h : k.val < 19 then -invG ρ ⟨k.val, h⟩ else 0) + (if h : 0 < k.val then invG ρ ⟨k.val - 1, by omega⟩ else 0)

theorem invG_real (ρ : Fin 20 → ℝ) (k : Fin 19) (h : ρ k.succ ≠ ρ k.castSucc) : invG ρ k = ((1 / (ρ k.succ - ρ k.castSucc) / 19 : ℝ) : EReal) := by
  unfold invG
  rw [← EReal.coe_sub, ← EReal.coe_one, div_real _ _ (sub_ne_zero.mpr h), nineteen_eq, div_real _ _ (by norm_num)]
theorem invG_top (ρ : Fin 20 → ℝ) (k : Fin 19) (h : ρ k.succ = ρ k.castSucc) : invG ρ k = ⊤ := by
  unfold invG
  rw [← EReal.coe_sub, h, sub_self, EReal.coe_zero]
  unfold Ideal.div
  rw [if_pos rfl, if_pos zero_lt_one, nineteen_eq, if_neg (by exact_mod_cast (by norm_num : (19 : ℝ) ≠ 0)), ← EReal.coe_inv, EReal.top_mul_coe_of_pos (by norm_num)]

theorem sum_bot {n : ℕ} (f : Fin n → EReal) (k : Fin n) (h : f k = ⊥) : ∑ i, f i = ⊥ := by
  rw [← Finset.add_sum_erase _ _ (Finset.mem_univ k), h, EReal.bot_add]

/-- Where no two neighbours are equal: summation by parts. -/
theorem slope_real (ρ ℓ : Fin 20 → ℝ) (h : ∀ k : Fin 19, ρ k.succ ≠ ρ k.castSucc) :
    ∑ k : Fin 20, wtG ρ k * (ℓ k : EReal)
      = Ideal.div (∑ k : Fin 19, Ideal.div ((ℓ k.succ : EReal) - ℓ k.castSucc) ((ρ k.succ : EReal) - ρ k.castSucc)) (Ideal.ofBits .f32 0x41980000#32) := by
  set d : Fin 19 → ℝ := fun k => 1 / (ρ k.succ - ρ k.castSucc) / 19 with hd
  have hw : ∀ k : Fin 20, wtG ρ k = (((if h : k.val < 19 then -d ⟨k.val, h⟩ else 0) + (if h : 0 < k.val then d ⟨k.val - 1, by omega⟩ else 0) : ℝ) : EReal) := by
    intro k
    unfold wtG
    rw [EReal.coe_add]
    congr 1
    · split
      · rw [invG_real ρ _ (h _), EReal.coe_neg]
      · rfl
    · split
      · rw [invG_real ρ _ (h _)]
      · rfl
  have hl : ∑ k : Fin 20, wtG ρ k * (ℓ k : EReal) = ((∑ k : Fin 19, d k * (ℓ k.succ - ℓ k.castSucc) : ℝ) : EReal) := by
    rw [Finset.sum_congr rfl fun k _ => by rw [hw k, ← EReal.coe_mul], ← KernelIdeal.Gen.coe_sum_real]
    congr 1
    simp only [add_mul, Finset.sum_add_distrib, mul_sub, Finset.sum_sub_distrib]
    rw [Fin.sum_univ_castSucc, Fin.sum_univ_succ (n := 19) (f := fun k : Fin 20 => (if h : 0 < k.val then d ⟨k.val - 1, by omega⟩ else 0) * ℓ k)]
    simp [Finset.sum_neg_distrib]
    ring
  have hr : ∀ k : Fin 19, Ideal.div ((ℓ k.succ : EReal) - ℓ k.castSucc) ((ρ k.succ : EReal) - ρ k.castSucc) = (((ℓ k.succ - ℓ k.castSucc) / (ρ k.succ - ρ k.castSucc) : ℝ) : EReal) := by
    intro k
    rw [← EReal.coe_sub, ← EReal.coe_sub, div_real _ _ (sub_ne_zero.mpr (h k))]
  rw [hl, Finset.sum_congr rfl fun k _ => hr k, ← KernelIdeal.Gen.coe_sum_real, nineteen_eq, div_real _ _ (by norm_num), Finset.sum_div]
  congr 1
  refine Finset.sum_congr rfl fun k _ => ?_
  rw [hd]
  dsimp only
  ring

/-- Where two neighbours are equal both are the least value. -/
theorem slope_bot (ρ ℓ : Fin 20 → ℝ) (hne : ∀ k, ℓ k ≠ 0) (heq : ∀ k : Fin 19, ρ k.succ = ρ k.castSucc → ℓ k.succ = ℓ k.castSucc)
    (h : ∃ k : Fin 19, ρ k.succ = ρ k.castSucc) :
    ∑ k : Fin 20, wtG ρ k * (ℓ k : EReal) = ⊥ ∧
    Ideal.div (∑ k : Fin 19, Ideal.div ((ℓ k.succ : EReal) - ℓ k.castSucc) ((ρ k.succ : EReal) - ρ k.castSucc)) (Ideal.ofBits .f32 0x41980000#32) = ⊥ := by
  obtain ⟨k, hk, hmax⟩ : ∃ k : Fin 19, ρ k.succ = ρ k.castSucc ∧ ∀ j : Fin 19, ρ j.succ = ρ j.castSucc → j ≤ k := by
    classical
    have hS : (Finset.univ.filter fun k : Fin 19 => ρ k.succ = ρ k.castSucc).Nonempty := by
      obtain ⟨k, hk⟩ := h
      exact ⟨k, by simp [hk]⟩
    refine ⟨Finset.max' _ hS, ?_, fun j hj => Finset.le_max' _ _ (by simp [hj])⟩
    have := Finset.max'_mem _ hS
    simpa using this
  have hl := heq k hk
  constructor
  · rcases lt_or_gt_of_ne (hne k.castSucc) with hneg | hpos
    · refine sum_bot _ k.succ ?_
      have hw : wtG ρ k.succ = ⊤ := by
        unfold wtG
        have e2 : (if h : 0 < (k.succ).val then invG ρ ⟨k.succ.val - 1, by omega⟩ else 0) = (⊤ : EReal) := by
          rw [dif_pos (by simp)]
          exact invG_top ρ k hk
        rw [e2]
        split
        · next hlt =>
          rw [invG_real ρ _ fun e => ?_, ← EReal.coe_neg, EReal.coe_add_top]
          have := hmax _ e
          rw [Fin.le_def] at this
          simp at this
        · rw [zero_add]
      rw [hw, hl, EReal.top_mul_coe_of_neg hneg]
    · refine sum_bot _ k.castSucc ?_
      have hw : wtG ρ k.castSucc = ⊥ := by
        unfold wtG
        rw [dif_pos (by simp : k.castSucc.val < 19)]
        rw [show invG ρ ⟨k.castSucc.val, by simp⟩ = ⊤ from invG_top ρ k hk, EReal.neg_top, EReal.bot_add]
      rw [hw, EReal.bot_mul_coe_of_pos hpos]
  · have hs : ∑ k : Fin 19, Ideal.div ((ℓ k.succ : EReal) - ℓ k.castSucc) ((ρ k.succ : EReal) - ρ k.castSucc) = ⊥ := by
      refine sum_bot _ k ?_
      rw [← EReal.coe_sub, ← EReal.coe_sub, hk, hl, sub_self, sub_self, EReal.coe_zero]
      unfold Ideal.div
      rw [if_pos rfl, if_neg (lt_irrefl _)]
    rw [hs, nineteen_eq]
    unfold Ideal.div
    rw [if_neg (by exact_mod_cast (by norm_num : (19 : ℝ) ≠ 0)), ← EReal.coe_inv, EReal.bot_mul_coe_of_pos (by norm_num)]

theorem slope_eq (ρ ℓ : Fin 20 → ℝ) (hne : ∀ k, ℓ k ≠ 0) (heq : ∀ k : Fin 19, ρ k.succ = ρ k.castSucc → ℓ k.succ = ℓ k.castSucc) :
    ∑ k : Fin 20, wtG ρ k * (ℓ k : EReal)
      = Ideal.div (∑ k : Fin 19, Ideal.div ((ℓ k.succ : EReal) - ℓ k.castSucc) ((ρ k.succ : EReal) - ρ k.castSucc)) (Ideal.ofBits .f32 0x41980000#32) := by
  by_cases h : ∃ k : Fin 19, ρ k.succ = ρ k.castSucc
  · rw [(slope_bot ρ ℓ hne heq h).1, (slope_bot ρ ℓ hne heq h).2]
  · exact slope_real ρ ℓ fun k e => h ⟨k, e⟩

end Cert.Pairs
-- ==== Proof.Count.lean ====
module

public import proofs.«01_k».proof.Proof.Math
public import proofs.«01_k».proof.Proof.Blocks

@[expose] public section
set_option maxRecDepth 16384
noncomputable section
open Idealize.ShloMosaic
open Cert.KernelIdeal.Gen (rowT colT inTile)
namespace Cert.Pairs

/-! ## Pairs of one batch element closer than a radius -/

def d2 (x : Fin 4096 → Fin 3 → ℝ) (i j : Fin 4096) : ℝ :=
  ∑ l, x i l * x i l + ∑ l, x j l * x j l - 2 * ∑ l, x i l * x j l
theorem d2_self (x : Fin 4096 → Fin 3 → ℝ) (i : Fin 4096) : d2 x i i = 0 := by
  unfold d2
  ring
theorem d2_symm (x : Fin 4096 → Fin 3 → ℝ) (i j : Fin 4096) : d2 x i j = d2 x j i := by
  unfold d2
  have : ∑ l, x i l * x j l = ∑ l, x j l * x i l := Finset.sum_congr rfl fun l _ => mul_comm _ _
  rw [this]
  ring

def Hit (x : Fin 4096 → Fin 3 → ℝ) (r : ℝ) (i j : Fin 4096) : Prop := i ≠ j ∧ d2 x i j < r * r
open Classical in
def hit (x : Fin 4096 → Fin 3 → ℝ) (r : ℝ) (i j : Fin 4096) : ℕ := if Hit x r i j then 1 else 0
theorem hit_symm (x : Fin 4096 → Fin 3 → ℝ) (r : ℝ) (i j : Fin 4096) : hit x r i j = hit x r j i := by
  have : Hit x r i j ↔ Hit x r j i := by
    unfold Hit
    rw [d2_symm, ne_comm]
  by_cases h : Hit x r i j
  · exact (if_pos h).trans (if_pos (this.mp h)).symm
  · exact (if_neg h).trans (if_neg fun h' => h (this.mpr h')).symm
theorem hit_pos (x : Fin 4096 → Fin 3 → ℝ) (r : ℝ) (i j : Fin 4096) (h : i ≠ j ∧ d2 x i j < r * r) : hit x r i j = 1 := if_pos h
theorem hit_neg (x : Fin 4096 → Fin 3 → ℝ) (r : ℝ) (i j : Fin 4096) (h : ¬ (i ≠ j ∧ d2 x i j < r * r)) : hit x r i j = 0 := if_neg h
def cnt (x : Fin 4096 → Fin 3 → ℝ) (r : ℝ) : ℕ := ∑ i, ∑ j, hit x r i j

theorem sum_tiles (g : Fin 4096 → ℕ) : ∑ a : Fin 8, ∑ i : Fin 512, g (inTile a i) = ∑ n : Fin 4096, g n := by
  have := Fin.sum_univ_univ_mul_add 8 512 (fun n => if h : n < 4096 then g ⟨n, h⟩ else 0)
  have e : ∀ (a : Fin 8) (i : Fin 512), (if h : a.val * 512 + i.val < 4096 then g ⟨a.val * 512 + i.val, h⟩ else 0) = g (inTile a i) := by
    intro a i
    rw [dif_pos (by omega)]
    rfl
  rw [Finset.sum_congr rfl fun a _ => Finset.sum_congr rfl fun i _ => (e a i).symm]
  refine this.trans ?_
  show ∑ l : Fin 4096, _ = _
  exact Finset.sum_congr rfl fun l _ => dif_pos l.isLt

theorem tri : Finset.univ.image (fun p : Fin 36 => (rowT p, colT p)) = Finset.univ.filter (fun ab : Fin 8 × Fin 8 => ab.1 ≤ ab.2) := by decide
theorem tri_inj : Function.Injective (fun p : Fin 36 => (rowT p, colT p)) := by decide

theorem sum_tri (f : Fin 8 → Fin 8 → ℕ) (hf : ∀ a b, f a b = f b a) :
    ∑ p : Fin 36, (if rowT p = colT p then 1 else 2) * f (rowT p) (colT p) = ∑ a, ∑ b, f a b := by
  have h1 : ∑ p : Fin 36, (if rowT p = colT p then 1 else 2) * f (rowT p) (colT p)
      = ∑ ab ∈ Finset.univ.filter (fun ab : Fin 8 × Fin 8 => ab.1 ≤ ab.2), (if ab.1 = ab.2 then 1 else 2) * f ab.1 ab.2 := by
    rw [← tri, Finset.sum_image fun p _ q _ h => tri_inj h]
  rw [h1, Finset.sum_filter, ← Finset.univ_product_univ, Finset.sum_product]
  have h2 : ∀ a b : Fin 8, (if a ≤ b then (if a = b then 1 else 2) * f a b else 0) + (if b ≤ a then (if b = a then 1 else 2) * f b a else 0) = f a b + f b a := by
    intro a b
    rw [hf b a]
    rcases lt_trichotomy a b with h | h | h
    · rw [if_pos h.le, if_neg h.ne, if_neg (not_le.mpr h)]; ring
    · subst h; simp
    · rw [if_pos h.le, if_neg h.ne, if_neg (not_le.mpr h)]; ring
  have h3 := Finset.sum_congr rfl fun a (_ : a ∈ Finset.univ) => Finset.sum_congr rfl fun b (_ : b ∈ Finset.univ) => h2 a b
  simp only [Finset.sum_add_distrib] at h3
  rw [Finset.sum_comm (f := fun a b : Fin 8 => if b ≤ a then (if b = a then 1 else 2) * f b a else 0), Finset.sum_comm (f := fun a b => f b a)] at h3
  dsimp only
  omega

theorem sum_pairs (x : Fin 4096 → Fin 3 → ℝ) (r : ℝ) :
    ∑ p : Fin 36, (if rowT p = colT p then 1 else 2) * (∑ i : Fin 512, ∑ j : Fin 512, hit x r (inTile (rowT p) i) (inTile (colT p) j)) = cnt x r := by
  rw [sum_tri (fun a b => ∑ i : Fin 512, ∑ j : Fin 512, hit x r (inTile a i) (inTile b j))]
  · unfold cnt
    rw [← sum_tiles]
    refine Finset.sum_congr rfl fun a _ => ?_
    rw [Finset.sum_comm]
    refine Finset.sum_congr rfl fun i _ => ?_
    exact sum_tiles (fun n => hit x r (inTile a i) n)
  · intro a b
    rw [Finset.sum_comm]
    refine Finset.sum_congr rfl fun i _ => Finset.sum_congr rfl fun j _ => hit_symm _ _ _ _

/-- The squared distance as the programs compute it, at real coordinates. -/
theorem d2_real {n : ℕ} (u v : Fin n → ℝ) :
    (∑ l, (u l : EReal) * (u l : EReal)) + (∑ l, (v l : EReal) * (v l : EReal)) - Ideal.ofBits .f32 0x40000000#32 * (∑ l, (u l : EReal) * (v l : EReal))
      = ((∑ l, u l * u l + ∑ l, v l * v l - 2 * ∑ l, u l * v l : ℝ) : EReal) := by
  rw [two_eq]
  simp only [← EReal.coe_mul, ← KernelIdeal.Gen.coe_sum_real, ← EReal.coe_add, ← EReal.coe_sub]

/-- A clamped root is below a radius exactly where the square is below its square. -/
theorem root_lt (d r : ℝ) (hr : 0 < r) (he : epsR < r * r) :
    Ideal.sqrt (max (Ideal.ofBits .f32 0x322BCC77#32) (d : EReal)) < (r : EReal) ↔ d < r * r := by
  have h0 := eps_pos
  rw [eps_eq, ← EReal.coe_strictMono.monotone.map_max, sqrt_real _ (le_max_of_le_left h0.le), EReal.coe_lt_coe_iff, Real.sqrt_lt' hr, max_lt_iff, sq]
  exact ⟨fun h => h.2, fun h => ⟨he, h⟩⟩

end Cert.Pairs
-- ==== Proof.Tile.lean ====
module

public import proofs.«01_k».proof.Proof.Out
public import proofs.«01_k».proof.Proof.Host
public import proofs.«01_k».proof.Proof.Count

@[expose] public section
set_option maxRecDepth 16384
noncomputable section
open Idealize.ShloMosaic Idealize.ShloMosaic.TcCoe Idealize.ShloMosaic.Tactic
namespace Cert.KernelIdeal.Gen
variable (m : (ℓ : Loc nD τ sig) → Buf (Elt Ideal) ℓ)

def colX (c : Dev nD) : FVec Ideal S8x4096x8 .f32 := V m c main_v0
def colT' (c : Dev nD) : FVec Ideal S8x8x4096 .f32 := V m c main_v1
def maskV (c : Dev nD) : FVec Ideal S512x512 .f32 := V m c main_v10
def xpad (x : Fin 4096 → Fin 3 → ℝ) (n : Fin 4096) (l : Fin 8) : ℝ := if h : l.val < 3 then x n ⟨l.val, h⟩ else 0

theorem sum_pad (x : Fin 4096 → Fin 3 → ℝ) (i j : Fin 4096) : ∑ l, xpad x i l * xpad x j l = ∑ l, x i l * x j l := by
  rw [Fin.sum_univ_eight, Fin.sum_univ_three]
  simp [xpad]

theorem inTile_eq (a b : Fin 8) (i j : Fin 512) : inTile a i = inTile b j ↔ a = b ∧ i = j := by
  constructor
  · intro h
    have := congrArg Fin.val h
    change a.val * 512 + i.val = b.val * 512 + j.val at this
    exact ⟨Fin.ext (by omega), Fin.ext (by omega)⟩
  · rintro ⟨rfl, rfl⟩
    rfl

theorem row_eq_col (p : Fin 36) : rowT p = colT p ↔ lit0 p = lit1 p :=
  ⟨fun h => BitVec.eq_of_toNat_eq (Fin.mk.inj h), fun h => Fin.ext (show (lit0 p).toNat = (lit1 p).toNat from congrArg BitVec.toNat h)⟩

/-- One tile's distance at real coordinates: the squared distance, and the mask on the diagonal. -/
theorem tileD_apply (c : Dev nD) (q : Fin 8) (p : Fin 36) (i j : Fin 512) (x : Fin 4096 → Fin 3 → ℝ)
    (hx : ∀ n l, argT m c (ix3 q n l) = ((x n l : ℝ) : EReal)) :
    tileD m c q p (ix2 i j) = ((Pairs.d2 x (inTile (rowT p) i) (inTile (colT p) j) + (if inTile (rowT p) i = inTile (colT p) j then Pairs.bigR else 0) : ℝ) : EReal) := by
  unfold tileD
  pointwise [k0_pay5]
  have hX : ∀ n (l : Fin 8), colX m c (ix3 q n l) = ((xpad x n l : ℝ) : EReal) := by
    intro n l
    refine (host_x m c q n l).trans ?_
    unfold xpad
    split
    · exact hx _ _
    · rfl
  have hT : ∀ n (l : Fin 8), colT' m c (ix3 q l n) = ((xpad x n l : ℝ) : EReal) := fun n l => (host_xt m c q n l).trans (hX n l)
  have hM : maskV m c (ix2 i j) = Ideal.ofBits .f32 0x7149F2CA#32 * (if i = j then 1 else 0 : EReal) := host_mask m c i j
  change ((∑ l : Fin 8, colX m c (ix3 q (inTile (rowT p) i) l) * colX m c (ix3 q (inTile (rowT p) i) l)
    + ∑ l : Fin 8, colT' m c (ix3 q l (inTile (colT p) j)) * colT' m c (ix3 q l (inTile (colT p) j))
    - Ideal.ofBits .f32 0x40000000#32 * ∑ l : Fin 8, colX m c (ix3 q (inTile (rowT p) i) l) * colT' m c (ix3 q l (inTile (colT p) j)))
    + k0_pay4 (F := Ideal) (lit0 p) (lit1 p) * maskV m c (ix2 i j) : EReal) = _
  rw [hM, diag_value, Pairs.big_eq]
  simp only [hX, hT]
  rw [Pairs.d2_real, sum_pad, sum_pad, sum_pad]
  have hd : ∀ a b : ℝ, a + (if inTile (rowT p) i = inTile (colT p) j then Pairs.bigR else 0) = a + b → ((a : ℝ) : EReal) + ((b : ℝ) : EReal) = ((a + (if inTile (rowT p) i = inTile (colT p) j then Pairs.bigR else 0) : ℝ) : EReal) := by
    intro a b h
    rw [h, EReal.coe_add]
  have hb : ((if lit0 p = lit1 p then 1 else 0) * ((Pairs.bigR : EReal) * if i = j then 1 else 0) : EReal)
      = (((if inTile (rowT p) i = inTile (colT p) j then Pairs.bigR else 0 : ℝ)) : EReal) := by
    by_cases h1 : lit0 p = lit1 p
    · by_cases h2 : i = j
      · rw [if_pos h1, if_pos h2, if_pos ((inTile_eq _ _ _ _).mpr ⟨(row_eq_col p).mpr h1, h2⟩), one_mul, mul_one]
      · rw [if_pos h1, if_neg h2, if_neg fun e => h2 ((inTile_eq _ _ _ _).mp e).2, mul_zero, mul_zero, EReal.coe_zero]
    · rw [if_neg h1, if_neg fun e => h1 ((row_eq_col p).mp ((inTile_eq _ _ _ _).mp e).1), zero_mul, EReal.coe_zero]
  rw [hb]
  exact hd _ _ rfl

theorem sum_range36 (f : ℕ → EReal) : ∑ p ∈ Finset.range 36, f p = ∑ p : Fin 36, f p.val := Finset.sum_range f

/-- One tile's contribution to one row: the weighted number of its close pairs. -/
theorem tile_count (c : Dev nD) (q : Fin 8) (p : Fin 36) (k : Fin 20) (x : Fin 4096 → Fin 3 → ℝ) (r : ℝ)
    (hx : ∀ n l, argT m c (ix3 q n l) = ((x n l : ℝ) : EReal)) (hR : argR m c (ix1 k) = ((r : ℝ) : EReal)) (hb : r * r ≤ Pairs.bigR) :
    ∑ j : Fin 512, tileHits m c q k j p.val
      = ((((if rowT p = colT p then 1 else 2) * (∑ i : Fin 512, ∑ j : Fin 512, Pairs.hit x r (inTile (rowT p) i) (inTile (colT p) j)) : ℕ) : ℝ) : EReal) := by
  have hr2 : (V m c main_v2 : Vec Ideal S20 .f32) (ix1 k) = ((r * r : ℝ) : EReal) := by
    rw [host_r, hR, EReal.coe_mul]
  have hw : tileW p = (((if rowT p = colT p then 1 else 2 : ℕ) : ℝ) : EReal) := by
    unfold tileW
    rw [weight_value]
    by_cases h : lit0 p = lit1 p
    · rw [if_pos h, if_pos ((row_eq_col p).mpr h), Nat.cast_one]
    · rw [if_neg h, if_neg fun e => h ((row_eq_col p).mp e), Nat.cast_ofNat]
  have h1 : ∀ i j : Fin 512, (if tileD m c q p (ix2 i j) < (V m c main_v2 : Vec Ideal S20 .f32) (ix1 k) then tileW p else 0 : EReal)
      = ((((if rowT p = colT p then 1 else 2) * Pairs.hit x r (inTile (rowT p) i) (inTile (colT p) j) : ℕ) : ℝ) : EReal) := by
    intro i j
    rw [tileD_apply m c q p i j x hx, hr2, hw]
    by_cases h : inTile (rowT p) i ≠ inTile (colT p) j ∧ Pairs.d2 x (inTile (rowT p) i) (inTile (colT p) j) < r * r
    · rw [Pairs.hit_pos x r _ _ h, if_neg h.1, add_zero, if_pos (EReal.coe_lt_coe_iff.mpr h.2), Nat.mul_one]
    · rw [Pairs.hit_neg x r _ _ h, Nat.mul_zero, if_neg, Nat.cast_zero, EReal.coe_zero]
      intro e
      rw [EReal.coe_lt_coe_iff] at e
      by_cases h2 : inTile (rowT p) i = inTile (colT p) j
      · rw [if_pos h2, h2, Pairs.d2_self, zero_add] at e
        linarith
      · rw [if_neg h2, add_zero] at e
        exact h ⟨h2, e⟩
  have h2 : ∀ j : Fin 512, tileHits m c q k j p.val = ∑ i : Fin 512, ((((if rowT p = colT p then 1 else 2) * Pairs.hit x r (inTile (rowT p) i) (inTile (colT p) j) : ℕ) : ℝ) : EReal) := by
    intro j
    unfold tileHits
    rw [dif_pos p.isLt]
    exact Finset.sum_congr rfl fun i _ => h1 i j
  rw [Finset.sum_congr rfl fun j _ => h2 j, Finset.sum_comm, Finset.mul_sum]
  simp only [Finset.mul_sum, Nat.cast_sum, coe_sum_real]

/-- One row of the finished accumulator adds up to the count of its radius. -/
theorem acc_count (hO : Ok m) (c : Dev nD) (q : Fin 8) (k : Fin 20) (x : Fin 4096 → Fin 3 → ℝ) (r : ℝ)
    (hx : ∀ n l, argT m c (ix3 q n l) = ((x n l : ℝ) : EReal)) (hR : argR m c (ix1 k) = ((r : ℝ) : EReal)) (hb : r * r ≤ Pairs.bigR) :
    ∑ j : Fin 512, (outsAt0 m hO c (lastPt m hO q).val (lastPt m hO q).isLt).2 (ix2 (⟨k.val, by omega⟩ : Fin 32) j) = (((Pairs.cnt x r : ℕ) : ℝ) : EReal) := by
  have hq : bat (lastPt m hO q) = q := Fin.ext ((bat_val _).trans (by show (36 * q.val + 35) / 36 = q.val; omega))
  have hp : (pair (lastPt m hO q)).val + 1 = 36 := by
    rw [pair_val]
    show (36 * q.val + 35) % 36 + 1 = 36
    omega
  rw [Finset.sum_congr rfl fun j _ => (accAt m hO c (lastPt m hO q)).1 k j, hp, hq]
  rw [Finset.sum_congr rfl fun j _ => sum_range36 _, Finset.sum_comm, Finset.sum_congr rfl fun p _ => tile_count m c q p k x r hx hR hb, ← Pairs.sum_pairs]
  simp only [Nat.cast_sum, coe_sum_real]

theorem wt_eq (c : Dev nD) (k : Fin 20) (r : Fin 20 → ℝ) (hR : ∀ k, argR m c (ix1 k) = ((r k : ℝ) : EReal)) (hr : ∀ k, 0 < r k) :
    wt m c k = Pairs.wtG (fun k => Pairs.rho (r k)) k := by
  have hl : ∀ k, logR m c k = ((Pairs.rho (r k) : ℝ) : EReal) := by
    intro k
    unfold logR
    rw [hR, Pairs.log_radius _ (hr k)]
  have hi : ∀ k, invD m c k = Pairs.invG (fun k => Pairs.rho (r k)) k := by
    intro k
    unfold invD
    rw [hl, hl]
    rfl
  unfold wt Pairs.wtG
  simp only [hi]

/-- The kernel's result at real arguments: the weighted sum of the logarithms, clipped. -/
theorem kres_real (hO : Ok m) (c : Dev nD) (q : Fin 8) (x : Fin 4096 → Fin 3 → ℝ) (r : Fin 20 → ℝ)
    (hx : ∀ n l, argT m c (ix3 q n l) = ((x n l : ℝ) : EReal)) (hR : ∀ k, argR m c (ix1 k) = ((r k : ℝ) : EReal))
    (hr : ∀ k, 0 < r k) (hb : ∀ k, r k * r k ≤ Pairs.bigR) :
    kres m hO c (ix1 q) = (min (Ideal.ofBits .f32 0x40400000#32) (max (Ideal.ofBits .f32 0x3DCCCCCD#32)
      (∑ k : Fin 20, Pairs.wtG (fun k => Pairs.rho (r k)) k * ((Pairs.lg (Pairs.cnt x (r k)) : ℝ) : EReal))) : EReal) := by
  show closing (outsAt0 m hO c (lastPt m hO q).val (lastPt m hO q).isLt).2 (wcol m c) = _
  have hw : ∀ k : Fin 32, wcol m c (ix2 k (0 : Fin 1)) = if h : k.val < 20 then Pairs.wtG (fun k => Pairs.rho (r k)) ⟨k.val, h⟩ else 0 := by
    intro k
    refine Eq.trans ?_ ((host_w m c k (0 : Fin 128)).trans ?_)
    · exact congrArg (V m c main_v31 : Vec Ideal S32x128 .f32) (funext fun a => by
        refine Fin.ext ?_
        fin_cases a
        · show 0 + 1 * k.val = k.val
          omega
        · rfl)
    · simp only [wt_eq m c _ r hR hr]
  unfold closing
  refine congrArg (fun z : EReal => min (Ideal.ofBits .f32 0x40400000#32) (max (Ideal.ofBits .f32 0x3DCCCCCD#32) z)) ?_
  rw [Fin.sum_univ_add (a := 20) (b := 12)]
  have h0 : ∀ (k : Fin 12) (z : EReal), wcol m c (ix2 (Fin.natAdd 20 k : Fin 32) (0 : Fin 1)) * z = 0 := by
    intro k z
    rw [hw, dif_neg (by simp), zero_mul]
  have h1 : ∀ k : Fin 20, wcol m c (ix2 (Fin.castAdd 12 k : Fin 32) (0 : Fin 1)) = Pairs.wtG (fun k => Pairs.rho (r k)) k := by
    intro k
    rw [hw, dif_pos (show (Fin.castAdd 12 k).val < 20 from k.isLt)]
    rfl
  have h2 : ∀ k : Fin 20, (∑ j : Fin 512, (outsAt0 m hO c (lastPt m hO q).val (lastPt m hO q).isLt).2 (ix2 (Fin.castAdd 12 k : Fin 32) j) : EReal) = (((Pairs.cnt x (r k) : ℕ) : ℝ) : EReal) :=
    fun k => acc_count m hO c q k x (r k) hx (hR k) (hb k)
  rw [Finset.sum_congr rfl fun k _ => h0 k _, Finset.sum_const_zero, add_zero]
  refine Finset.sum_congr rfl fun k _ => ?_
  rw [h1, h2, Pairs.log_count]

end Cert.KernelIdeal.Gen
-- ==== Proof.Ref.lean ====
module

public import proofs.«01_k».proof.Proof.Gen.ReferenceIdeal.Read
public import Idealize.ShloMosaic.Lib.Pointwise
public import proofs.«01_k».proof.Proof.Count

@[expose] public section
set_option maxRecDepth 16384
noncomputable section
open Idealize.ShloMosaic Idealize.ShloMosaic.TcCoe Idealize.ShloMosaic.Tactic
namespace Cert.ReferenceIdeal.Gen
open Cert.ReferenceIdeal.Read

variable (T : Vec Ideal S8x4096x3 .f32) (R : Vec Ideal S20 .f32)

theorem not_word (p : Prop) [Decidable p] : ~~~(BitVec.ofBool (decide p)) = BitVec.ofBool (decide (¬ p)) := by
  by_cases h : p <;> simp [h]

/-- One pair's indicator at real coordinates. -/
theorem mask_at (k : Fin 20) (b : Fin 8) (i j : Fin 4096) (x : Fin 4096 → Fin 3 → ℝ) (r : ℝ)
    (hx : ∀ n l, T (ix3 b n l) = ((x n l : ℝ) : EReal)) (hR : R (ix1 k) = ((r : ℝ) : EReal)) (hr : 0 < r) (he : Pairs.epsR < r * r) :
    val_main_v27 (F := Ideal) T R (ix4 k b i j) = (((Pairs.hit x r i j : ℕ) : ℝ) : EReal) := by
  pointwise [val_main_v0, val_main_cst, val_main_v1, val_main_v2, val_main_v3, val_main_v4, val_main_v5, val_main_v6, val_main_v7, val_main_cst_0, val_main_v8, val_main_v9, val_main_v10, val_main_cst_1, val_main_call0_v0, val_main_call0_v1, val_main_v11, val_main_v12, val_main_v13, val_main_v14, val_main_c, val_main_v15, val_main_v16, val_main_v17, val_main_v18, val_main_v19, val_main_v20, val_main_v21, val_main_v22, val_main_v23, val_main_v24, val_main_v25, val_main_v26, val_main_v27, val_main_cst_2]
  simp only [hx, hR]
  rw [Pairs.d2_real (x i) (x j)]
  have ha : IntOp.addi (BitVec.ofNat 32 i.val) 0#32 = BitVec.ofNat 32 i.val := by
    unfold IntOp.addi
    exact BitVec.add_zero _
  have hm : (max (id (constant (F := Ideal) S_ .f32 841731191#32) ix0) (((∑ l, x i l * x i l + ∑ l, x j l * x j l - 2 * ∑ l, x i l * x j l : ℝ) : EReal)) : EReal)
      = max (Ideal.ofBits .f32 0x322BCC77#32) ((Pairs.d2 x i j : ℝ) : EReal) := rfl
  rw [ha, WordCmp.cmpi_eq_ofNat (by omega) (by omega), hm, not_word, WordCmp.andi_ofBool, ← Bool.decide_and]
  by_cases h : i ≠ j ∧ Pairs.d2 x i j < r * r
  · rw [Pairs.hit_pos x r i j h, decide_eq_true ⟨(Pairs.root_lt _ r hr he).mpr h.2, fun e => h.1 (Fin.ext e)⟩]
    show (((1 : ℕ) : ℝ) : EReal) = _
    rfl
  · rw [Pairs.hit_neg x r i j h, decide_eq_false fun e => h ⟨fun e' => e.2 (congrArg Fin.val e'), (Pairs.root_lt _ r hr he).mp e.1⟩]
    show (((0 : ℕ) : ℝ) : EReal) = _
    rfl

/-- The count of one radius and one batch element: the sum of the indicators. -/
theorem count_at (k : Fin 20) (b : Fin 8) : val_main_v28 (F := Ideal) T R (ix2 k b) = ∑ i : Fin 4096, ∑ j : Fin 4096, (val_main_v27 (F := Ideal) T R (ix4 k b i j) : EReal) := by
  unfold val_main_v28
  generalize val_main_v27 (F := Ideal) T R = X
  pointwise [val_main_cst_2]

theorem count_real (k : Fin 20) (b : Fin 8) (x : Fin 4096 → Fin 3 → ℝ) (r : ℝ)
    (hx : ∀ n l, T (ix3 b n l) = ((x n l : ℝ) : EReal)) (hR : R (ix1 k) = ((r : ℝ) : EReal)) (hr : 0 < r) (he : Pairs.epsR < r * r) :
    val_main_v28 (F := Ideal) T R (ix2 k b) = (((Pairs.cnt x r : ℕ) : ℝ) : EReal) := by
  rw [count_at]
  simp only [mask_at T R k b _ _ x r hx hR hr he]
  unfold Pairs.cnt
  simp only [Nat.cast_sum, KernelIdeal.Gen.coe_sum_real]

/-- The result: the mean slope, clipped. -/
theorem res_at (b : Fin 8) (x : Fin 4096 → Fin 3 → ℝ) (r : Fin 20 → ℝ)
    (hx : ∀ n l, T (ix3 b n l) = ((x n l : ℝ) : EReal)) (hR : ∀ k, R (ix1 k) = ((r k : ℝ) : EReal)) (hr : ∀ k, 0 < r k) (he : ∀ k, Pairs.epsR < r k * r k) :
    val_main_v50 (F := Ideal) T R (ix1 b) = (min (Ideal.ofBits .f32 0x40400000#32) (max (Ideal.ofBits .f32 0x3DCCCCCD#32)
      (Ideal.div (∑ k : Fin 19, Ideal.div (((Pairs.lg (Pairs.cnt x (r k.succ)) : ℝ) : EReal) - ((Pairs.lg (Pairs.cnt x (r k.castSucc)) : ℝ) : EReal))
        (((Pairs.rho (r k.succ) : ℝ) : EReal) - ((Pairs.rho (r k.castSucc) : ℝ) : EReal))) (Ideal.ofBits .f32 0x41980000#32))) : EReal) := by
  pointwise [val_main_cst_3, val_main_v29, val_main_v30, val_main_cst_4, val_main_v31, val_main_v32, val_main_v33, val_main_v34, val_main_cst_5, val_main_v35, val_main_v36, val_main_v37, val_main_v38, val_main_v39, val_main_v40, val_main_v41, val_main_v42, val_main_v43, val_main_v44, val_main_v45, val_main_v46, val_main_cst_6, val_main_v47, val_main_cst_7, val_main_v48, val_main_v49, val_main_cst_8, val_main_cst_9, val_main_call1_v0, val_main_call1_v1, val_main_call1_v2, val_main_call1_v3, val_main_call1_v4, val_main_v50]
  have hc : ∀ k, val_main_v28 (F := Ideal) T R (ix2 k b) = (((Pairs.cnt x (r k) : ℕ) : ℝ) : EReal) := fun k => count_real T R k b x (r k) hx (hR k) (hr k) (he k)
  simp only [hc, hR, Pairs.log_count, Pairs.log_radius _ (hr _)]
  have hs : ∀ (k : Fin 19) (h : 1 + k.val < 20), (⟨1 + k.val, h⟩ : Fin 20) = k.succ := fun k _ => Fin.ext (Nat.add_comm 1 k.val)
  simp only [hs]
  rfl

end Cert.ReferenceIdeal.Gen
-- ==== Proof.Pre.lean ====
/- What the precondition says of the arguments' entries. -/
module

public import proofs.«01_k».proof.Proof.Gen.Pre_attractor_inputs
public import proofs.«01_k».proof.Proof.Count
public import Idealize.ShloMosaic.Lib.Pointwise
public import Idealize.ShloMosaic.Lib.WordCmp

@[expose] public section
set_option maxRecDepth 16384
noncomputable section
open Idealize.ShloMosaic Idealize.ShloMosaic.TcCoe Idealize.ShloMosaic.Tactic
namespace Cert.Pre_attractor_inputs.Gen

variable [Cert.Pre_attractor_inputs.Facts]
variable (T : FVec Ideal S8x4096x3 .f32) (R : FVec Ideal S20 .f32)

theorem inf_eq : Ideal.ofBits .f32 0x7F800000#32 = (⊤ : EReal) := by
  simp [Ideal.ofBits, Ideal.ieee]
theorem nil_eq : Ideal.ofBits .f32 0x00000000#32 = (0 : EReal) := by
  simp [Ideal.ofBits, Ideal.ieee]

theorem real_of (z : EReal) (h1 : z < ⊤ ∧ -z < ⊤) : ∃ r : ℝ, z = ((r : ℝ) : EReal) := by
  induction z with
  | bot => exact absurd h1.2 (by simp)
  | top => exact absurd h1.1 (by simp)
  | coe r => exact ⟨r, rfl⟩

theorem radius_of (z : EReal) (h2 : 0 < z) (h3 : (Pairs.epsR : EReal) < z * z) (h4 : z * z ≤ (Pairs.bigR : EReal)) :
    ∃ r : ℝ, z = ((r : ℝ) : EReal) ∧ 0 < r ∧ Pairs.epsR < r * r ∧ r * r ≤ Pairs.bigR := by
  induction z with
  | bot => exact absurd h2 (by simp)
  | top => exact absurd h4 (by simp)
  | coe r =>
    rw [← EReal.coe_mul, EReal.coe_lt_coe_iff] at h3
    rw [← EReal.coe_mul, EReal.coe_le_coe_iff] at h4
    exact ⟨r, rfl, by exact_mod_cast h2, h3, h4⟩

theorem fst_at (b : Fin 8) (n : Fin 4096) (l : Fin 3) (h : (fn T R).1 = fun _ => 1#1) : ∃ r : ℝ, T (ix3 b n l) = ((r : ℝ) : EReal) := by
  have h1 := congrFun h (ix3 b n l)
  change BitVec.ofBool (decide (max (T (ix3 b n l) : EReal) (-(T (ix3 b n l) : EReal)) < Ideal.ofBits .f32 0x7F800000#32)) = 1#1 at h1
  rw [WordCmp.ofBool_decide_eq_one_iff, inf_eq, max_lt_iff] at h1
  exact real_of _ h1

theorem and_one (p q : Prop) [Decidable p] [Decidable q] (h : IntOp.andi (BitVec.ofBool (decide p)) (BitVec.ofBool (decide q)) = 1#1) : p ∧ q := by
  rw [WordCmp.andi_ofBool, ← Bool.decide_and, WordCmp.ofBool_decide_eq_one_iff] at h
  exact h

theorem snd_at (k : Fin 20) (h : (fn T R).2 = fun _ => 1#1) : ∃ r : ℝ, R (ix1 k) = ((r : ℝ) : EReal) ∧ 0 < r ∧ Pairs.epsR < r * r ∧ r * r ≤ Pairs.bigR := by
  have h1 := congrFun h (ix1 k)
  change IntOp.andi (IntOp.andi (BitVec.ofBool (decide (Ideal.ofBits .f32 0x00000000#32 < (R (ix1 k) : EReal)))) (BitVec.ofBool (decide (Ideal.ofBits .f32 0x322BCC77#32 < (R (ix1 k) * R (ix1 k) : EReal)))))
    (BitVec.ofBool (decide ((R (ix1 k) * R (ix1 k) : EReal) ≤ Ideal.ofBits .f32 0x7149F2CA#32))) = 1#1 at h1
  rw [WordCmp.andi_ofBool, ← Bool.decide_and] at h1
  obtain ⟨⟨h2, h3⟩, h4⟩ := and_one _ _ h1
  rw [nil_eq] at h2
  rw [Pairs.eps_eq] at h3
  rw [Pairs.big_eq] at h4
  exact radius_of _ h2 h3 h4

end Cert.Pre_attractor_inputs.Gen
-- ==== Proof.RefFrame.lean ====
/- The frame of the reference: a line of host operations, which ends, faults nowhere and writes no argument. -/
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

set_option maxHeartbeats 8000000 in
theorem reference_frame : Cert.quiescent_ReferenceIdeal (hReferenceIdeal := Cert.ReferenceIdeal.Gen.facts) := by
  intro m g _
  hlo_run
  · exact fun _ => ⟨trivial, trivial⟩
  · exact sem_eq_zero_of_no_sems (sig := Cert.ReferenceIdeal.sig) (by decide) _

end Cert.Proof

end
-- ==== Proof.lean ====
/- The proof of the claim. -/
module

public import proofs.«01_k».proof.Proof.Gen.ReferenceIdeal.Run
public import proofs.«01_k».proof.Proof.Gen.ReferenceIdeal.Read
public import proofs.«01_k».proof.Proof.Tables
public import proofs.«01_k».proof.Proof.Tile
public import proofs.«01_k».proof.Proof.Ref
public import proofs.«01_k».proof.Proof.Pre
public import proofs.«01_k».proof.Proof.RefFrame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem

/-- The two results agree where the precondition holds. -/
theorem value_eq (T : Vec Ideal Cert.KernelIdeal.S8x4096x3 .f32) (R : Vec Ideal Cert.KernelIdeal.S20 .f32)
    (m : (ℓ : Loc Cert.KernelIdeal.nD Cert.KernelIdeal.τ Cert.KernelIdeal.sig) → Buf (Elt Ideal) ℓ) (hO : Cert.KernelIdeal.Gen.Ok m) (c : Dev Cert.KernelIdeal.nD)
    (hT : Cert.KernelIdeal.Gen.argT m c = T) (hR : Cert.KernelIdeal.Gen.argR m c = R)
    (h1 : (Cert.Pre_attractor_inputs.fn (F := Ideal) T R).1 = fun _ => 1#1) (h2 : (Cert.Pre_attractor_inputs.fn (F := Ideal) T R).2 = fun _ => 1#1) :
    Cert.ReferenceIdeal.Read.val_main_v50 (F := Ideal) T R = Cert.KernelIdeal.Gen.kres m hO c := by
  funext (y : Cert.KernelIdeal.S8.Idx)
  obtain ⟨b, rfl⟩ : ∃ b : Fin 8, y = ix1 b := ⟨y 0, by funext a; fin_cases a; rfl⟩
  choose x hx using fun (n : Fin 4096) (l : Fin 3) => Cert.Pre_attractor_inputs.Gen.fst_at T R b n l h1
  choose r hr hpos heps hbig using fun k : Fin 20 => Cert.Pre_attractor_inputs.Gen.snd_at T R k h2
  rw [Cert.ReferenceIdeal.Gen.res_at T R b x r hx hr hpos heps,
    Cert.KernelIdeal.Gen.kres_real m hO c b x r (fun n l => by rw [hT]; exact hx n l) (fun k => by rw [hR]; exact hr k) hpos hbig,
    Cert.Pairs.slope_eq (fun k => Cert.Pairs.rho (r k)) (fun k => Cert.Pairs.lg (Cert.Pairs.cnt x (r k))) (fun k => Cert.Pairs.lg_ne _)
      (fun k e => by rw [Cert.Pairs.rho_inj _ _ (hpos _) (hpos _) e])]

theorem algebraic : Cert.algebraic_KernelIdeal_ReferenceIdeal_pre_attractor_inputs (hKernelIdeal := Cert.KernelIdeal.Gen.facts)
    (hReferenceIdeal := Cert.ReferenceIdeal.Gen.facts) (hPre_attractor_inputs := Cert.Pre_attractor_inputs.Gen.facts) := by
  intro m g m' g' hpre hargs
  refine ⟨fun c => Cert.KernelIdeal.Gen.kres m (Cert.KernelIdeal.Gen.ok m) c, Cert.KernelIdeal.Gen.kernel_run m g (Cert.KernelIdeal.Gen.ok m), ?_⟩
  refine (θ_run _ _ _).mono (fun r h c => ?_) (Cert.ReferenceIdeal.Value.run m' g')
  refine ⟨(h c).1.trans ((Cert.ReferenceIdeal.Read.val_main_v50_eq m' c).trans ?_), (h c).2⟩
  have hp := hpre c
  rw [(hargs c).1, (hargs c).2]
  exact value_eq _ _ m (Cert.KernelIdeal.Gen.ok m) c rfl rfl hp.1 hp.2

theorem claim : Cert.Claim :=
  ⟨Cert.Kernel.Gen.facts, Cert.KernelIdeal.Gen.facts, Cert.ReferenceIdeal.Gen.facts, Cert.Pre_attractor_inputs.Gen.facts,
    fun m g _ => Cert.Kernel.Gen.frame m g (Cert.Kernel.Gen.ok m),
    fun m g _ => Cert.KernelIdeal.Gen.frame m g (Cert.KernelIdeal.Gen.ok m),
    fun m g _ => Cert.KernelIdeal.Gen.frame m g (Cert.KernelIdeal.Gen.ok m),
    reference_frame,
    fun m g _ => reference_frame m g trivial,
    trivial, algebraic⟩

end Cert.Proof

end
